-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x2048 : Shape := ⟨2, ![2048, 2048]⟩
abbrev S4x2048x2048 : Shape := ⟨3, ![4, 2048, 2048]⟩
abbrev S2x512x2048 : Shape := ⟨3, ![2, 512, 2048]⟩
abbrev S4x4 : Shape := ⟨2, ![4, 4]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S4x2048x2048, .bf16⟩
  | .hbm, ⟨4, _⟩ => ⟨S4x2048x2048, .bf16⟩
  | .hbm, ⟨5, _⟩ => ⟨S8192x2048, .bf16⟩
  | .local _ .vmem, ⟨0, _⟩ => ⟨S2x512x2048, .f32⟩
  | .local _ .vmem, ⟨1, _⟩ => ⟨S2x512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2x512x2048, .bf16⟩
  | .local _ .vmem, ⟨5, _⟩ => ⟨S2048x2048, .bf16⟩
  | .local _ .vmem, ⟨6, _⟩ => ⟨S2x512x2048, .bf16⟩
  | .local _ .vmem, ⟨7, _⟩ => ⟨S2x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v37 : BitVec 32 := Scalar.addi v2 c1_i32_18
  let c4_i32_19 : BitVec 32 := 4#32
  let c0_i32_20 : BitVec 32 := 0#32
  let v38 : BitVec 1 := Scalar.cmpi .eq c4_i32_19 c0_i32_20
  let c1_i32_21 : BitVec 32 := 1#32
  let v39 : BitVec 32 := Scalar.select v38 c1_i32_21 c4_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c1_i32_26 : BitVec 32 := 1#32
  let v48 : BitVec 32 := Scalar.muli v47 c1_i32_26
  let v49 : BitVec 32 := Scalar.addi c0_i32_27 v48
  v49.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v50 : BitVec 32 := Scalar.addi v2 c2_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v61 : BitVec 32 := Scalar.muli v60 c1_i32_36
  let v62 : BitVec 32 := Scalar.addi c0_i32_37 v61
  v62.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v63 : BitVec 32 := Scalar.addi v2 c3_i32_38
  let c4_i32_39 : BitVec 32 := 4#32
  let c0_i32_40 : BitVec 32 := 0#32
  let v64 : BitVec 1 := Scalar.cmpi .eq c4_i32_39 c0_i32_40
  let c1_i32_41 : BitVec 32 := 1#32
  let v65 : BitVec 32 := Scalar.select v64 c1_i32_41 c4_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_46 : BitVec 32 := 1#32
  let v74 : BitVec 32 := Scalar.muli v73 c1_i32_46
  let v75 : BitVec 32 := Scalar.addi c0_i32_47 v74
  v75.toNat
def k0_off1 (d0 : Dev nD) (c2_i32 : BitVec 32) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32 : BitVec 32 := 2048#32
  let v76 : BitVec 32 := Scalar.muli v35 c2048_i32
  let v77 : BitVec 32 := Scalar.addi v76 c0_i32_49
  let c0_i32_54 : BitVec 32 := 0#32
  ![v77.toNat, 0]
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v152 : BitVec 32 := Scalar.muli v13 c1_i32_124
  let v153 : BitVec 32 := Scalar.addi c0_i32_125 v152
  v153.toNat
def k0_dev5 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_164 : BitVec 32 := 1#32
  let v191 : BitVec 32 := Scalar.muli v13 c1_i32_164
  let v192 : BitVec 32 := Scalar.addi c0_i32_165 v191
  v192.toNat
def k0_dev6 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_204 : BitVec 32 := 1#32
  let v230 : BitVec 32 := Scalar.muli v24 c1_i32_204
  let v231 : BitVec 32 := Scalar.addi c0_i32_205 v230
  v231.toNat
def k0_dev7 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_244 : BitVec 32 := 1#32
  let v269 : BitVec 32 := Scalar.muli v24 c1_i32_244
  let v270 : BitVec 32 := Scalar.addi c0_i32_245 v269
  v270.toNat
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_284 : BitVec 32 := 1#32
  let v308 : BitVec 32 := Scalar.muli v24 c1_i32_284
  let v309 : BitVec 32 := Scalar.addi c0_i32_285 v308
  v309.toNat
def k0_off2 (d0 : Dev nD) (c0_i32_301 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_300 : BitVec 32 := 2048#32
  let v328 : BitVec 32 := Scalar.muli v2 c2048_i32_300
  let v329 : BitVec 32 := Scalar.addi v328 c0_i32_301
  let c0_i32_306 : BitVec 32 := 0#32
  ![v329.toNat, 0]
def k0_dev9 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_324 : BitVec 32 := 1#32
  let v347 : BitVec 32 := Scalar.muli v24 c1_i32_324
  let v348 : BitVec 32 := Scalar.addi c0_i32_325 v347
  v348.toNat
def k0_dev10 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_476 : BitVec 32 := 1#32
  let v501 : BitVec 32 := Scalar.muli v13 c1_i32_476
  let v502 : BitVec 32 := Scalar.addi c0_i32_477 v501
  v502.toNat
def k0_dev11 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_491 : BitVec 32 := 1#32
  let v515 : BitVec 32 := Scalar.muli v13 c1_i32_491
  let v516 : BitVec 32 := Scalar.addi c0_i32_492 v515
  v516.toNat
def k0_dev12 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_648 : BitVec 32 := 1#32
  let v655 : BitVec 32 := Scalar.muli v13 c1_i32_648
  let v656 : BitVec 32 := Scalar.addi c0_i32_649 v655
  v656.toNat
def k0_dev13 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_715 : BitVec 32 := 1#32
  let v716 : BitVec 32 := Scalar.muli v13 c1_i32_715
  let v717 : BitVec 32 := Scalar.addi c0_i32_716 v716
  v717.toNat
def k0_dev14 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_744 : BitVec 32 := 1#32
  let v745 : BitVec 32 := Scalar.muli v24 c1_i32_744
  let v746 : BitVec 32 := Scalar.addi c0_i32_745 v745
  v746.toNat
def k0_dev15 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_759 : BitVec 32 := 1#32
  let v759 : BitVec 32 := Scalar.muli v24 c1_i32_759
  let v760 : BitVec 32 := Scalar.addi c0_i32_760 v759
  v760.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_828 : BitVec 32 := 0#32
  ![v2.toNat, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_833 : BitVec 32 := 0#32
  let c0_i32_834 : BitVec 32 := 0#32
  ![v2.toNat, 0, 0]
def k0_dev16 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_831 : BitVec 32 := 1#32
  let v825 : BitVec 32 := Scalar.muli v13 c1_i32_831
  let v826 : BitVec 32 := Scalar.addi c0_i32_832 v825
  v826.toNat
def k0_dev17 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_840 : BitVec 32 := 1#32
  let v834 : BitVec 32 := Scalar.muli v24 c1_i32_840
  let v835 : BitVec 32 := Scalar.addi c0_i32_841 v834
  v835.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_921 : BitVec 32 := 1#32
  ![v2.toNat, 1]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_926 : BitVec 32 := 512#32
  let c0_i32_927 : BitVec 32 := 0#32
  ![v2.toNat, 512, 0]
def k0_dev18 (d0 : Dev nD) : Nat :=
  let c0_i32_925 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_924 : BitVec 32 := 1#32
  let v910 : BitVec 32 := Scalar.muli v13 c1_i32_924
  let v911 : BitVec 32 := Scalar.addi c0_i32_925 v910
  v911.toNat
def k0_dev19 (d0 : Dev nD) : Nat :=
  let c0_i32_934 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_933 : BitVec 32 := 1#32
  let v919 : BitVec 32 := Scalar.muli v24 c1_i32_933
  let v920 : BitVec 32 := Scalar.addi c0_i32_934 v919
  v920.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1013 : BitVec 32 := 2#32
  ![v2.toNat, 2]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1018 : BitVec 32 := 1024#32
  let c0_i32_1019 : BitVec 32 := 0#32
  ![v2.toNat, 1024, 0]
def k0_dev20 (d0 : Dev nD) : Nat :=
  let c0_i32_1017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1016 : BitVec 32 := 1#32
  let v995 : BitVec 32 := Scalar.muli v13 c1_i32_1016
  let v996 : BitVec 32 := Scalar.addi c0_i32_1017 v995
  v996.toNat
def k0_dev21 (d0 : Dev nD) : Nat :=
  let c0_i32_1026 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1025 : BitVec 32 := 1#32
  let v1004 : BitVec 32 := Scalar.muli v24 c1_i32_1025
  let v1005 : BitVec 32 := Scalar.addi c0_i32_1026 v1004
  v1005.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1111 : BitVec 32 := 3#32
  ![v2.toNat, 3]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1536_i32_1116 : BitVec 32 := 1536#32
  let c0_i32_1117 : BitVec 32 := 0#32
  ![v2.toNat, 1536, 0]
def k0_dev22 (d0 : Dev nD) : Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1114 : BitVec 32 := 1#32
  let v1085 : BitVec 32 := Scalar.muli v13 c1_i32_1114
  let v1086 : BitVec 32 := Scalar.addi c0_i32_1115 v1085
  v1086.toNat
def k0_dev23 (d0 : Dev nD) : Nat :=
  let c0_i32_1124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1123 : BitVec 32 := 1#32
  let v1094 : BitVec 32 := Scalar.muli v24 c1_i32_1123
  let v1095 : BitVec 32 := Scalar.addi c0_i32_1124 v1094
  v1095.toNat
def k0_off11 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_1144 : BitVec 32 := 0#32
  ![v13.toNat, 0]
def k0_off12 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_1149 : BitVec 32 := 0#32
  let c0_i32_1150 : BitVec 32 := 0#32
  ![v13.toNat, 0, 0]
def k0_dev24 (d0 : Dev nD) : Nat :=
  let c0_i32_1157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1156 : BitVec 32 := 1#32
  let v1126 : BitVec 32 := Scalar.muli v24 c1_i32_1156
  let v1127 : BitVec 32 := Scalar.addi c0_i32_1157 v1126
  v1127.toNat
def k0_off13 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1205 : BitVec 32 := 1#32
  ![v13.toNat, 1]
def k0_off14 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_1210 : BitVec 32 := 512#32
  let c0_i32_1211 : BitVec 32 := 0#32
  ![v13.toNat, 512, 0]
def k0_dev25 (d0 : Dev nD) : Nat :=
  let c0_i32_1218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_1217 : BitVec 32 := 1#32
  let v1188 : BitVec 32 := Scalar.muli v24 c1_i32_1217
  let v1189 : BitVec 32 := Scalar.addi c0_i32_1218 v1188
  v1189.toNat
def k0_off15 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32_1331 : BitVec 32 := 2#32
  ![v13.toNat, 2]
def k0_off16 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_1336 : BitVec 32 := 1024#32
  let c0_i32_1337 : BitVec 32 := 0#32
  ![v13.toNat, 1024, 0]
def k0_dev26 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1382 : BitVec 32 := 1#32
  let v1350 : BitVec 32 := Scalar.muli v13 c1_i32_1382
  let v1351 : BitVec 32 := Scalar.addi c0_i32_1383 v1350
  v1351.toNat
def k0_off17 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c3_i32_1457 : BitVec 32 := 3#32
  ![v13.toNat, 3]
def k0_off18 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1536_i32_1462 : BitVec 32 := 1536#32
  let c0_i32_1463 : BitVec 32 := 0#32
  ![v13.toNat, 1536, 0]
def k0_dev27 (d0 : Dev nD) : Nat :=
  let c0_i32_1509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1508 : BitVec 32 := 1#32
  let v1474 : BitVec 32 := Scalar.muli v13 c1_i32_1508
  let v1475 : BitVec 32 := Scalar.addi c0_i32_1509 v1474
  v1475.toNat
-- ==== ReferenceIdeal.lean ====
abbrev S32768x2048 : Shape := ⟨2, ![32768, 2048]⟩
abbrev S2048x2048 : Shape := ⟨2, ![2048, 2048]⟩
abbrev S4x8192x2048 : Shape := ⟨3, ![4, 8192, 2048]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S4x8192x2048, .f32⟩
  | .hbm, ⟨3, _⟩ => ⟨S_, .f32⟩
  | .hbm, ⟨4, _⟩ => ⟨S8192x2048, .f32⟩
  | .hbm, ⟨5, _⟩ => ⟨S8192x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Base.lean ====
/-
  The protocol of the kernel, written down once for every device and every float type: the memrefs of the
  blocks it moves, the contents of every landing, the semaphore cells, who pays which cell, who waits on it,
  and the levels that order the waits.

  Device `c` sends to its ring neighbours only: `rot c 1` (up) and `rot c 3` (down). The block that belongs to
  the diagonal device `rot c 2` is relayed through a neighbour, which adds its own block on the way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSched
public import Idealize.ShloMosaic.Lib.Pipeline.BigSepL
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

/-! ## The resource algebra -/

abbrev UB : Type := URounds (GSem nD τ sig) (Fin 4)
abbrev UX : Type := UB × Counters
abbrev UU : Type := UR sig nD τ × UX

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB UX).trans embR
abbrev EC : UEmb Counters (MT nD τ sig ℕ (Elt F) ℕ UU ℕ) := countersEmb

/-! ## The ring -/

set_option backward.proofsInPublic true in
/-- The device `k` places further round the ring. -/
def rot (c : Dev nD) (k : ℕ) : Dev nD := ⟨(c.val + k) % 4, Nat.mod_lt _ (by decide)⟩

/-! ## The memrefs -/

abbrev A0 : Memref sig .tc .hbm S8192x2048 .f32 := Memref.whole main_arg0
abbrev A1 : Memref sig .tc .hbm S2048x2048 .f32 := Memref.whole main_arg1
abbrev A2 : Memref sig .tc .hbm S8192x2048 .f32 := Memref.whole main_v1_0
abbrev A3 : Memref sig .tc .hbm S4x2048x2048 .bf16 := Memref.whole main_v1_1
abbrev A4 : Memref sig .tc .hbm S4x2048x2048 .bf16 := Memref.whole main_v1_2
abbrev A5 : Memref sig .tc .hbm S8192x2048 .bf16 := Memref.whole main_v1_3
abbrev A6 : Memref sig .tc .vmem S2x512x2048 .f32 := Memref.whole cc0_scratch0
abbrev A7 : Memref sig .tc .vmem S2x512x2048 .bf16 := Memref.whole cc0_scratch1
abbrev A8 : Memref sig .tc .vmem S2048x2048 .bf16 := Memref.whole cc0_scratch2
abbrev A9 : Memref sig .tc .vmem S2048x2048 .bf16 := Memref.whole cc0_scratch3
abbrev A10 : Memref sig .tc .vmem S2x512x2048 .bf16 := Memref.whole cc0_scratch4
abbrev A11 : Memref sig .tc .vmem S2048x2048 .bf16 := Memref.whole cc0_scratch5
abbrev A12 : Memref sig .tc .vmem S2x512x2048 .bf16 := Memref.whole cc0_scratch6
abbrev A13 : Memref sig .tc .vmem S2x512x2048 .f32 := Memref.whole cc0_scratch7

theorem inb8 (b j : Fin 4) : ∀ a, (![2048 * b.val + 512 * j.val, 0] : Fin 2 → Nat) a + S512x2048.size a ≤ S8192x2048.size a := by
  revert b j; decide
theorem inb1 (j : Fin 4) : ∀ a, (![512 * j.val, 0] : Fin 2 → Nat) a + S512x2048.size a ≤ S2048x2048.size a := by
  revert j; decide
theorem inb4 (s j : Fin 4) : ∀ a, (![s.val, 512 * j.val, 0] : Fin 3 → Nat) a + S1x512x2048.size a ≤ S4x2048x2048.size a := by
  revert s j; decide
theorem inb2 (i : Fin 2) : ∀ a, (![i.val, 0, 0] : Fin 3 → Nat) a + S1x512x2048.size a ≤ S2x512x2048.size a := by
  revert i; decide

/-- Chunk `j` (512 rows) of block `b` of an array of 8192 rows. -/
abbrev r8 (b j : Fin 4) : Rect S8192x2048 := Rect.unit (s := S8192x2048) ![2048 * b.val + 512 * j.val, 0] S512x2048.size (inb8 b j)
/-- Chunk `j` of an array of 2048 rows. -/
abbrev r1 (j : Fin 4) : Rect S2048x2048 := Rect.unit (s := S2048x2048) ![512 * j.val, 0] S512x2048.size (inb1 j)
/-- Chunk `j` of slot `s` of an array of four blocks. -/
abbrev r4 (s j : Fin 4) : Rect S4x2048x2048 := Rect.unit (s := S4x2048x2048) ![s.val, 512 * j.val, 0] S1x512x2048.size (inb4 s j)
/-- Slot `i` of a double buffer. -/
abbrev r2 (i : Fin 2) : Rect S2x512x2048 := Rect.unit (s := S2x512x2048) ![i.val, 0, 0] S1x512x2048.size (inb2 i)

/-- The row of a squeezed chunk is dropped. -/
abbrev sqz := squeezes_S1x512x2048_S512x2048

abbrev MemH (e : EltTy) : Type := Memref sig .tc .hbm S512x2048 e
abbrev MemV (e : EltTy) : Type := Memref sig .tc .vmem S512x2048 e

def tM (b j : Fin 4) : MemH .f32 := A0.slice (r8 b j) (fun _ => rfl)
def wM (j : Fin 4) : MemH .f32 := A1.slice (r1 j) (fun _ => rfl)
def outM (b j : Fin 4) : MemH .f32 := A2.slice (r8 b j) (fun _ => rfl)
def t16M (b j : Fin 4) : MemH .bf16 := A5.slice (r8 b j) (fun _ => rfl)
def rsM (s j : Fin 4) : MemH .bf16 := (A3.slice (r4 s j) (fun _ => rfl)).squeeze S512x2048 sqz
def agM (s j : Fin 4) : MemH .bf16 := (A4.slice (r4 s j) (fun _ => rfl)).squeeze S512x2048 sqz
def cinM (i : Fin 2) : MemV .f32 := (A6.slice (r2 i) (fun _ => rfl)).squeeze S512x2048 sqz
def coutM (i : Fin 2) : MemV .bf16 := (A7.slice (r2 i) (fun _ => rfl)).squeeze S512x2048 sqz
def sumM (i : Fin 2) : MemV .bf16 := (A10.slice (r2 i) (fun _ => rfl)).squeeze S512x2048 sqz
def aginM (i : Fin 2) : MemV .bf16 := (A12.slice (r2 i) (fun _ => rfl)).squeeze S512x2048 sqz
def agoutM (i : Fin 2) : MemV .f32 := (A13.slice (r2 i) (fun _ => rfl)).squeeze S512x2048 sqz
def ownM (j : Fin 4) : MemV .bf16 := A8.slice (r1 j) (fun _ => rfl)
def w16M (j : Fin 4) : MemV .bf16 := A9.slice (r1 j) (fun _ => rfl)
def y16M (j : Fin 4) : MemV .bf16 := A11.slice (r1 j) (fun _ => rfl)

/-! ## Contents -/

abbrev C32 (F : FTy → Type) : Type := S512x2048.Idx → Elt F .f32
abbrev C16 (F : FTy → Type) : Type := S512x2048.Idx → Elt F .bf16

/-- A slot of a double buffer as a chunk, and back. -/
def sq {α : Type} (v : S1x512x2048.Idx → α) : S512x2048.Idx → α := fun x => v (Shape.reshapeEquiv sqz.numel_eq x)
def usq {α : Type} (v : S512x2048.Idx → α) : S1x512x2048.Idx → α := fun x => v (Shape.reshapeEquiv sqz.numel_eq.symm x)

theorem sq_usq {α : Type} (v : S512x2048.Idx → α) : sq (usq v) = v := by
  funext x; show v _ = v _
  rw [Shape.reshapeEquiv_reshapeEquiv, Shape.reshapeEquiv_self]
theorem usq_sq {α : Type} (v : S1x512x2048.Idx → α) : usq (sq v) = v := by
  funext x; show v _ = v _
  rw [Shape.reshapeEquiv_reshapeEquiv, Shape.reshapeEquiv_self]

/-- A chunk narrowed to bf16. -/
def castP (X : C32 F) : C16 F := (truncf .bf16 (X : FVec F S512x2048 .f32) bitsLt_bf16_f32 : FVec F S512x2048 .bf16)
/-- A chunk widened to f32. -/
def extP (X : C16 F) : C32 F := (extf .f32 (X : FVec F S512x2048 .bf16) bitsLt_bf16_f32 : FVec F S512x2048 .f32)
/-- A received partial sum and this device's own chunk, added and narrowed. -/
def addP (Y : C16 F) (X : C32 F) : C16 F :=
  castP (addf (extP Y : FVec F S512x2048 .f32) (X : FVec F S512x2048 .f32) : FVec F S512x2048 .f32)
/-- The product of the summed chunk by the weights. -/
def dotP (P Q O : C16 F) (W : S2048x2048.Idx → Elt F .bf16) : C32 F :=
  k0_pay26 (F := F) (usq P) (usq Q) O W

variable (m : (ℓ : Loc nD τ sig) → Buf (Elt F) ℓ)

/-- Chunk `j` of block `b` of device `d`'s operand at launch. -/
def tch (d b : Dev nD) (j : Fin 4) : C32 F := (tM b j).view.read (Elt F) (m ((d : Thread nD τ).loc main_arg0))
/-- Chunk `j` of device `d`'s weights at launch. -/
def wch (d : Dev nD) (j : Fin 4) : C32 F := (wM j).view.read (Elt F) (m ((d : Thread nD τ).loc main_arg1))

/-- What device `d` sends of its diagonal block, chunk `j`: its own chunk narrowed. -/
def dgV (d : Dev nD) (j : Fin 4) : C16 F := castP (tch m d (rot d 2) j)

/-- What device `c` sends of block `rot c 1`: its own chunk, with the chunk that came from `rot c 3` added where that
    one is sent through `c`. -/
def upV (c : Dev nD) (j : Fin 4) : C16 F :=
  if j.val < 2 then addP (dgV m (rot c 3) j) (tch m c (rot c 1) j) else castP (tch m c (rot c 1) j)
/-- The same of block `rot c 3`. -/
def dnV (c : Dev nD) (j : Fin 4) : C16 F :=
  if j.val < 2 then castP (tch m c (rot c 3) j) else addP (dgV m (rot c 1) j) (tch m c (rot c 3) j)

/-- What lands in slot `s`, chunk `j` of device `p`'s receive array. -/
def rsV (p : Dev nD) (s j : Fin 4) : C16 F :=
  if s = 0 then upV m (rot p 3) j else if s = 1 then dnV m (rot p 1) j
  else if s = 2 then dgV m (rot p 3) j else dgV m (rot p 1) j

/-- The weights narrowed to bf16. -/
def w16V (d : Dev nD) : S2048x2048.Idx → Elt F .bf16 :=
  (truncf .bf16 (m ((d : Thread nD τ).loc main_arg1) : FVec F S2048x2048 .f32) bitsLt_bf16_f32 : FVec F S2048x2048 .bf16)

/-- Chunk `j` of the result's block `d`, computed by device `d`, -/
def dotV (d : Dev nD) (j : Fin 4) : C32 F := dotP (rsV m d 0 j) (rsV m d 1 j) (castP (tch m d d j)) (w16V m d)
/-- and what device `d` gives away of it. -/
def yV (d : Dev nD) (j : Fin 4) : C16 F := castP (dotV m d j)
/-- Chunk `j` of block `b` of device `c`'s result. -/
def outV (c b : Dev nD) (j : Fin 4) : C32 F := if b = c then dotV m c j else extP (yV m b j)

/-! ## The places that are sent to, and their cells -/

/-- A place: `(0, s, j)` is chunk `j` of slot `s` of the receive array, `(1, o, j)` is chunk `j` of the gathered block `o`. -/
abbrev Spot : Type := Fin 2 × Fin 4 × Fin 4

def spotM (x : Spot) : MemH .bf16 := if x.1 = 0 then rsM x.2.1 x.2.2 else agM x.2.1 x.2.2
def spotV (p : Dev nD) (x : Spot) : C16 F := if x.1 = 0 then rsV m p x.2.1 x.2.2 else yV m x.2.1 x.2.2
/-- The number of a place's semaphore. -/
def spotN (x : Spot) : ℕ := 16 * x.1.val + 4 * x.2.1.val + x.2.2.val
set_option backward.proofsInPublic true in
/-- The place of a semaphore number below 32. -/
def spotOf (n : ℕ) : Spot := (⟨n / 16 % 2, Nat.mod_lt _ (by decide)⟩, ⟨n / 4 % 4, Nat.mod_lt _ (by decide)⟩, ⟨n % 4, Nat.mod_lt _ (by decide)⟩)

theorem spotOf_spotN : ∀ x : Spot, spotOf (spotN x) = x := by decide

set_option backward.proofsInPublic true in
/-- The transfer semaphore of a number. -/
def dsem (n : ℕ) : DmaSem sig := ⟨n % 72, Nat.mod_lt _ (by decide)⟩

/-- The barrier cell. -/
abbrev barS : SemLoc sig := .reg (sig.barrier 0 rfl)

/-! ## Payments and waits -/

/-- A payment: `(2, k, 0)` is the barrier signal to `rot c k`; `(f, k, j)` for `f = 0, 1` is the transfer that completes
    at home on the send semaphore `(k, j)` of the scatter (`0`) or the gather (`1`). -/
abbrev Code : Type := Fin 3 × Fin 4 × Fin 4

/-- The transfers in program order. -/
def sends : List Code :=
  [(0,3,0),(0,3,1),(0,3,2),(0,3,3),(0,2,0),(0,2,1),(0,1,2),(0,1,3),(0,1,0),(0,1,1),(0,2,2),(0,2,3),
   (1,1,0),(1,2,0),(1,1,1),(1,2,1),(1,1,2),(1,2,2),(1,1,3),(1,2,3),(1,3,0),(1,3,1),(1,3,2),(1,3,3)]
/-- The payments in program order. -/
def codes : List Code := (2,1,0) :: (2,2,0) :: (2,3,0) :: sends

/-- How far round the ring a payment goes. -/
def toOff (x : Code) : ℕ :=
  if x.1 = 2 then x.2.1.val
  else if x.1 = 0 then (if x.2.1 = 1 then 1 else if x.2.1 = 2 then 3 else if x.2.2.val < 2 then 1 else 3)
  else (if x.2.1 = 1 then 1 else if x.2.1 = 2 then 3 else if x.2.2.val < 2 then 3 else 1)

/-- The place a transfer of device `c` writes. -/
def spotTo (c : Dev nD) (x : Code) : Spot :=
  if x.1 = 0 then (0, (if x.2.1 = 1 then 0 else if x.2.1 = 2 then 1 else if x.2.2.val < 2 then 2 else 3), x.2.2)
  else (1, (if x.2.1 = 3 then (if x.2.2.val < 2 then rot c 1 else rot c 3) else c), x.2.2)

/-- A payment's level. -/
def lvl (x : Code) : ℕ :=
  if x.1 = 2 then 1 else if x.1 = 0 then (if x.2.1 = 3 then 2 else 3) else (if x.2.1 = 3 then 5 + x.2.2.val else 4)

/-- A transfer's number of its own send semaphore. -/
def sendN (x : Code) : ℕ := 32 + 16 * x.1.val + 4 * x.2.1.val + x.2.2.val

/-- The credit of a chunk of bf16. -/
theorem NB_ex : ∃ n, ∀ v : MemH .bf16, v.view.dmaCredit = n := ⟨(t16M 0 0).view.dmaCredit, fun _ => rfl⟩
def NB : ℕ := NB_ex.choose
theorem NB_eq (v : MemH .bf16) : v.view.dmaCredit = NB := NB_ex.choose_spec v
theorem NB_pos : 0 < NB := NB_eq (t16M 0 0) ▸ View.dmaCredit_pos _ (Shape.numel_pos fun a => by fin_cases a <;> decide)

/-- The cell a payment of device `c` is made to, -/
def remS (c : Dev nD) (x : Code) : SemLoc sig := if x.1 = 2 then barS else .dma (dsem (spotN (spotTo c x)))
abbrev remCell (c : Dev nD) (x : Code) : GSem nD τ sig := ((rot c (toOff x) : Thread nD τ), remS c x)
/-- the duty it discharges there, -/
def remD (x : Code) : Fin 4 := if x.1 = 2 then 0 - x.2.1 else 0
/-- and its amount. -/
def amtC (x : Code) : ℕ := if x.1 = 2 then 1 else NB

/-- A transfer's own send cell. -/
abbrev sndS (x : Code) : SemLoc sig := .dma (dsem (sendN x))
abbrev sndCell (c : Dev nD) (x : Code) : GSem nD τ sig := ((c : Thread nD τ), sndS x)

def pay (c : Dev nD) (x : Code) : Pay nD τ sig := (remCell c x, lvl x, amtC x)
def pays (c : Dev nD) : List (Pay nD τ sig) := codes.map (pay c)

/-- The waits of a device on what others pay, in program order: `(2,0,0)` the barrier, `(0, s, j)` the receive slot,
    `(1, o, j)` the gathered block of `rot c o`. -/
def recvs : List Code :=
  [(2,0,0),(0,2,0),(0,2,1),(0,3,2),(0,3,3),(0,0,0),(0,1,0),(0,0,1),(0,1,1),(0,0,2),(0,1,2),(0,0,3),(0,1,3),
   (1,1,0),(1,3,0),(1,1,1),(1,3,1),(1,2,0),(1,1,2),(1,3,2),(1,2,1),(1,1,3),(1,3,3),(1,2,2),(1,2,3)]

def spotR (c : Dev nD) (x : Code) : Spot := if x.1 = 0 then (0, x.2.1, x.2.2) else (1, rot c x.2.1.val, x.2.2)
def rcvS (c : Dev nD) (x : Code) : SemLoc sig := if x.1 = 2 then barS else .dma (dsem (spotN (spotR c x)))
abbrev rcvCell (c : Dev nD) (x : Code) : GSem nD τ sig := ((c : Thread nD τ), rcvS c x)
def lvlR (x : Code) : ℕ :=
  if x.1 = 2 then 1 else if x.1 = 0 then (if 2 ≤ x.2.1.val then 2 else 3) else (if x.2.1 = 2 then 5 + x.2.2.val else 4)
def amtR (x : Code) : ℕ := if x.1 = 2 then 3 else NB

/-! ## Ownership at some contents; the payloads -/

variable (F) in
/-- A memref owned in full, at some contents. -/
def any (c : Dev nD) {sp : Space} {sh : Shape} {e : EltTy} (v : Memref sig .tc sp sh e) : sProp 𝕄 :=
  iprop(∃ Y, owns (c : Thread nD τ) v fullShare Y)

instance any_storable (c : Dev nD) {sp : Space} {sh : Shape} {e : EltTy} (v : Memref sig .tc sp sh e) :
    BI.Storable (upEmb : UEmb _ 𝕄) (any F c v) := by unfold any; infer_instance

variable (F) in
/-- What a transfer of device `c` writes over. -/
def dstOf (c : Dev nD) (x : Code) : sProp 𝕄 := any F (rot c (toOff x)) (spotM (spotTo c x))
variable (F) in
/-- A barrier signal hands over the places its receiver will write on the signalling device. -/
def barPay (d : Dev nD) (r : Fin 4) : sProp 𝕄 := bigSepL (sends.filter fun x => decide (toOff x = r.val)) (dstOf F d)

/-- What the credit of transfer semaphore number `n` hands to its owner `p`. -/
def dmaPay (p : Dev nD) (n : ℕ) : sProp 𝕄 :=
  if n < 32 then owns (p : Thread nD τ) (spotM (spotOf n)) fullShare (spotV m p (spotOf n))
  else if n / 4 = 13 then iprop(∃ Y, owns (p : Thread nD τ) (y16M (spotOf n).2.2) fullShare.left Y)
  else if n / 4 = 14 then iprop(∃ Y, owns (p : Thread nD τ) (y16M (spotOf n).2.2) fullShare.right Y)
  else iprop(emp)

/-- The cells of the protocol on a device. -/
def cellsL (c : Dev nD) : List (SemLoc sig) := recvs.map (rcvS c) ++ sends.map sndS

/-! ## The schedule -/

def Rd : Rounds.Schedule (GSem nD τ sig) (Fin 4) 𝕄 where
  duties g r := if r = 0 then (match g.2 with | .reg _ => {1, 2, 3} | .dma _ => {0}) else ∅
  unitless _ := False
  amount g _ _ := match g.2 with | .reg _ => 1 | .dma _ => NB
  payload g _ d := match g.2 with | .reg _ => barPay F g.1.1 d | .dma n => dmaPay m g.1.1 n.val
  amount_pos g _ _ _ := by
    rcases g with ⟨_, _ | _⟩
    · exact Nat.one_pos
    · exact NB_pos

theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => exact (inferInstance : BI.Storable (upEmb : UEmb _ 𝕄) (iprop(emp)))
  | cons i l ih =>
    rw [bigSepL_cons']
    have := h i
    infer_instance

instance Rd_storable (g : GSem nD τ sig) (r : ℕ) (d : Fin 4) : BI.Storable (upEmb : UEmb _ 𝕄) ((Rd (F := F) m).payload g r d) := by
  rcases g with ⟨_, _ | n⟩
  · exact bigSepL_storable _ _ fun i => by unfold dstOf; infer_instance
  · show BI.Storable upEmb (dmaPay m _ n.val)
    unfold dmaPay
    (repeat' split) <;> infer_instance

section Sched
variable (c : Dev nD)

theorem duties_dma (q : DmaSem sig) : (Rd (F := F) m).duties ((c : Thread nD τ), .dma q) 0 = {0} := rfl
theorem duties_bar : (Rd (F := F) m).duties ((c : Thread nD τ), barS) 0 = {1, 2, 3} := rfl
theorem duties_later (g : GSem nD τ sig) (r : ℕ) (hr : 1 ≤ r) : (Rd (F := F) m).duties g r = ∅ := by
  dsimp only [Rd]; rw [if_neg (by omega)]
theorem amount_dma (q : DmaSem sig) (r : ℕ) (d : Fin 4) : (Rd (F := F) m).amount ((c : Thread nD τ), .dma q) r d = NB := by dsimp only [Rd]
theorem expect_dma (q : DmaSem sig) : (Rd (F := F) m).expect ((c : Thread nD τ), .dma q) 0 = NB := by
  unfold Schedule.expect Schedule.amountOf; rw [duties_dma, Finset.sum_singleton, amount_dma]
theorem expect_bar : (Rd (F := F) m).expect ((c : Thread nD τ), barS) 0 = 3 := by
  unfold Schedule.expect Schedule.amountOf; rw [duties_bar]
  exact (Finset.sum_congr rfl fun d _ => (rfl : (Rd (F := F) m).amount ((c : Thread nD τ), barS) 0 d = 1)).trans (by rfl : (({1, 2, 3} : Finset (Fin 4)).sum fun _ => 1) = 3)
theorem rest_dma (q : DmaSem sig) :
    bigSep ((Rd (F := F) m).duties ((c : Thread nD τ), .dma q) 0 \ ∅) (fun d => (Rd (F := F) m).payload ((c : Thread nD τ), .dma q) 0 d) = dmaPay m c q.val := by
  rw [Finset.sdiff_empty, duties_dma, bigSep_singleton]; rfl
theorem rest_bar :
    bigSep ((Rd (F := F) m).duties ((c : Thread nD τ), barS) 0 \ ∅) (fun d => (Rd (F := F) m).payload ((c : Thread nD τ), barS) 0 d)
      = iprop(barPay F c 1 ∗ barPay F c 2 ∗ barPay F c 3) := by
  rw [Finset.sdiff_empty, duties_bar, bigSep_eq_bigSepL_of_eq [1, 2, 3] (by decide) (by decide)]; rfl
end Sched

/-! ## The state of a device between two steps -/

/-- The cells by number. -/
abbrev nC : ℕ := 49
theorem cellsL_length (c : Dev nD) : (cellsL c).length = nC := rfl
def kcell (x : Dev nD × Fin nC) : GSem nD τ sig := ((x.1 : Thread nD τ), (cellsL x.1)[x.2.val]'(by rw [cellsL_length]; exact x.2.isLt))

/-- Every cell's invariant under its name, and that its round 0 is reached. -/
def recs (K : Dev nD × Fin nC → ℕ) : sProp 𝕄 :=
  iprop((bigSep Finset.univ fun x => cellInv ER (Rd m) (K x) (kcell x)) ∗ bigSep Finset.univ fun x => reached ER (kcell x) 0)

instance recs_persistent (K : Dev nD × Fin nC → ℕ) : BI.Persistent (recs m K) := by unfold recs; infer_instance

theorem recs_at (K : Dev nD × Fin nC → ℕ) (d : Dev nD) (s : SemLoc sig) (h : s ∈ cellsL d) :
    recs m K ⊢ iprop(∃ κ, cellInv ER (Rd m) κ ((d : Thread nD τ), s) ∗ reached ER ((d : Thread nD τ), s) 0) := by
  obtain ⟨i, hi, rfl⟩ := List.getElem_of_mem h
  have h1 : (bigSep Finset.univ fun x => cellInv ER (Rd m) (K x) (kcell x)) ⊢ cellInv ER (Rd m) (K (d, (⟨i, hi⟩ : Fin nC))) (kcell (d, (⟨i, hi⟩ : Fin nC))) :=
    bigSep_elim (Finset.mem_univ _)
  have h2 : (bigSep Finset.univ fun x => (reached ER (kcell x) 0 : sProp 𝕄)) ⊢ reached ER (kcell (d, (⟨i, hi⟩ : Fin nC))) 0 := bigSep_elim (Finset.mem_univ _)
  unfold recs
  iintro ⟨HI, HR⟩
  iexists K (d, ⟨i, hi⟩)
  isplitl [HI]
  · iapply h1; iexact HI
  · iapply h2; iexact HR

/-- The number of levels. -/
abbrev nL : ℕ := 10
variable (F) in
abbrev levs : sProp 𝕄 := levAts (SiteBlocks.L nL) SiteBlocks.lv

variable (F) in
/-- What a payment is made with: the duty's token; a transfer has its own send cell's token and position too. -/
def tok (c : Dev nD) (x : Code) : sProp 𝕄 :=
  if x.1 = 2 then iprop(dutyTok ER (remCell c x) 0 (remD x))
  else iprop(dutyTok ER (remCell c x) 0 (remD x) ∗ dutyTok ER (sndCell c x) 0 0 ∗ atPos ER (sndCell c x) 0 ∅ 0)
variable (F) in
/-- What a wait is made with. -/
def rk (c : Dev nD) (x : Code) : sProp 𝕄 := iprop(cred (tallyAt (rcvCell c x) (lvlR x) (amtR x)) ∗ atPos ER (rcvCell c x) 0 ∅ 0)
variable (F) in
/-- What the wait for a transfer's completion at home is made with. -/
def sk (c : Dev nD) (x : Code) : sProp 𝕄 := iprop(cred (tallyAt (sndCell c x) 0 NB) ∗ atPos ER (sndCell c x) 0 ∅ 0)

/-- The protocol's state on device `c` when `n` payments, `k` waits on others and `w` waits on its own transfers are done. -/
def St (c : Dev nD) (n k w : ℕ) : sProp 𝕄 :=
  iprop((∃ K, recs m K) ∗ levs F ∗ (∃ W, owes (c : Thread nD τ) (tallyL ((pays c).drop n)) W)
    ∗ bigSepL (codes.drop n) (tok F c) ∗ bigSepL (recvs.drop k) (rk F c) ∗ bigSepL ((sends.take (n - 3)).drop w) (sk F c)
    ∗ (if k = 0 then iprop(emp) else bigSepL (sends.drop (n - 3)) (dstOf F c))
    ∗ bigSepL (recvs.take k) (fun x => semVal (rcvCell c x) 0) ∗ bigSepL (sends.take w) (fun x => semVal (sndCell c x) 0))

end Cert.RingProof
-- ==== Proof.Steps.lean ====
/-
  One lemma for each kind of step the kernel takes, over memrefs owned at known contents: a local copy and its wait, a
  load, a load followed by a store, a barrier signal, a wait on another device's payment, a transfer to another device
  and the wait for its completion. `St` carries the protocol's state through.
-/
module

public import proofs.«01_k».proof.Proof.Base

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)

variable {F : FTy → Type} [FloatOps F]

local notation "𝕄" => MT nD τ sig ℕ (Elt F) ℕ UU ℕ

def 𝒱₀ : Variants := Variants.none

/-- The rest of the body, as a program of device `c`. -/
abbrev PT (F : FTy → Type) (α : Type) : Type 1 := Prog (TpuEff nD τ sig (Elt F) Λ₀ .tc) α

abbrev wpp (c : Dev nD) {α : Type} (p : PT F α) (Q : α → sProp 𝕄) : sProp 𝕄 :=
  wp frame (wpE (defs₀ (F := F)) 𝒱₀ (c : Thread nD τ) none) Set.univ p Q

variable {α : Type} (c : Dev nD) (m : (ℓ : Loc nD τ sig) → Buf (Elt F) ℓ)

/-! ## Local copies -/

variable (F) in
/-- A counter of a transfer semaphore at zero. -/
abbrev sv (s : DmaSem sig) : sProp 𝕄 := semVal ((c : Thread nD τ), .dma s) 0

/-- A local copy into `dst` on the semaphore `s`, in flight, which will deliver `D`. -/
def Fl {sp : Space} {sh : Shape} {e : EltTy} (s : DmaSem sig) (dst : Memref sig .tc sp sh e) (D : sProp 𝕄) : sProp 𝕄 :=
  Transfers.Flight EC (c : Thread nD τ) (.dma s) 0 dst.view.dmaCredit D

/-- A chunk is not empty. -/
theorem chunk_pos {sp : Space} {e : EltTy} (v : Memref sig .tc sp S512x2048 e) : 0 < v.view.dmaCredit :=
  View.dmaCredit_pos _ (Shape.numel_pos fun a => by fin_cases a <;> decide)

theorem copy_step {spS spD : Space} {e : EltTy} (src : Memref sig .tc spS S512x2048 e) (dst : Memref sig .tc spD S512x2048 e) (s : DmaSem sig)
    {src' : Memref sig .tc spS S512x2048 e} {dst' : Memref sig .tc spD S512x2048 e} {s' : DmaSem sig}
    (hs : src' = src) (hd : dst' = dst) (hq : s' = s)
    {hsrc : src'.view.WordExact} {hdst : dst'.view.WordExact} {hsem : DmaTarget.Typed (nD := nD) (τ := τ) (p := .tc) spS (.dma s') (.here dst')}
    {Q : α → sProp 𝕄} {k : PUnit → PT F α} {q : PosShare TreeShare} {X : S512x2048.Idx → Elt F e} :
    iprop(owns (c : Thread nD τ) src q X ∗ any F c dst ∗ sv F c s)
      ⊢ iprop((Fl c s dst iprop(owns (c : Thread nD τ) dst fullShare X ∗ owns (c : Thread nD τ) src q X) -∗ wpp c (k ⟨⟩) Q)
        -∗ wpp c (.op (.enqueueDma src' (.here dst') (.dma s') hsrc hdst hsem) k) Q) := by
  subst hs hd hq
  unfold any owns
  iintro ⟨⟨%f, %hf, Hs⟩, ⟨%Y, %g, %hg, Hd⟩, Hv⟩ Hk
  iapply (Transfers.wp_dmaLocal EC 𝒱₀ (c : Thread nD τ) none (q := q) (fs := f) (fd := g) (Sd := dst'.view.set) 0 dst'.view.dmaCredit rfl
    (chunk_pos dst') (Finset.Subset.refl _)) $$ [Hs Hd Hv]
  · isplitl [Hs]; · iexact Hs
    isplitl [Hd]; · iexact Hd
    iexact Hv
  iintro HF
  iapply Hk
  unfold Fl
  have hD : iprop((dst'.view.loc (c : Thread nD τ) ↦[dst'.view.set]{fullShare} (dst'.view.write (Elt F) g (src'.view.read (Elt F) f) Finset.univ))
        ∗ (src'.view.loc (c : Thread nD τ) ↦[src'.view.set]{q} f))
      ⊢ iprop((∃ f, ⌜dst'.view.read (Elt F) f = X⌝ ∗ (dst'.view.loc (c : Thread nD τ) ↦[dst'.view.set]{fullShare} f))
        ∗ (∃ f, ⌜src'.view.read (Elt F) f = X⌝ ∗ (src'.view.loc (c : Thread nD τ) ↦[src'.view.set]{q} f)) : sProp 𝕄) := by
    iintro ⟨Hd, Hs⟩
    isplitl [Hd]
    · iexists _; isplitr
      · ipureintro; exact (View.read_write_univ g _).trans hf
      · iexact Hd
    · iexists f; isplitr
      · ipureintro; exact hf
      · iexact Hs
  iapply (Transfers.Flight_mono (EC := EC) (c := (c : Thread nD τ)) hD) $$ HF

/-- Every payment is at a level above 0. -/
theorem lvl_pos (x : Code) : 0 < lvl x := by revert x; decide

theorem mayWait_at {n i : ℕ} (hi : i < nL) (hlv : ∀ x ∈ codes.drop n, i < lvl x ∧ lvl x < nL) (s : SemLoc sig) :
    levs F ⊢ MayWait (c : Thread nD τ) s i (tallyL ((pays c).drop n)) :=
  SiteBlocks.mayWait_of hi c s _ fun g k h => by
    obtain ⟨x, hx, rfl, rfl⟩ := tallyL_pos h
    unfold pays at hx
    rw [← List.map_drop] at hx
    obtain ⟨y, hy, rfl⟩ := List.mem_map.mp hx
    exact ⟨SiteBlocks.mem_L' rfl (hlv y hy).2, (hlv y hy).1⟩

theorem lvl_lt : ∀ x ∈ codes, lvl x < nL := by decide

theorem mayWait_zero (n : ℕ) (s : SemLoc sig) : levs F ⊢ MayWait (c : Thread nD τ) s 0 (tallyL ((pays c).drop n)) :=
  mayWait_at c (by decide) (fun x hx => ⟨lvl_pos x, lvl_lt x (List.mem_of_mem_drop hx)⟩) s

theorem wait_step {sp spw : Space} {sh shw : Shape} {e ew : EltTy} (s : DmaSem sig) (dst : Memref sig .tc sp sh e) {s' : DmaSem sig}
    {dst' : Memref sig .tc sp sh e} (hq : s' = s) (hd : dst' = dst)
    {srcw : Memref sig .tc spw shw ew} {hsrc : srcw.view.WordExact} {hdst : dst'.view.WordExact} {Q : α → sProp 𝕄} {k : PUnit → PT F α} {D : sProp 𝕄} {n r w : ℕ} :
    iprop(Fl c s dst D ∗ St m c n r w)
      ⊢ iprop((iprop(D ∗ sv F c s ∗ St m c n r w) -∗ wpp c (k ⟨⟩) Q) -∗ wpp c (.op (.waitDma2 s' srcw dst' hsrc hdst) k) Q) := by
  subst hq hd
  unfold Fl St
  iintro ⟨HF, Hrec, #Hlev, ⟨%W, HO⟩, Hr⟩ Hk
  iapply (Transfers.wp_waitLocalO EC 𝒱₀ (c : Thread nD τ) none 0 rfl) $$ [HF HO]
  · isplitl [HF]; · iexact HF
    isplitl [HO]; · iexact HO
    iapply (mayWait_zero c n _); iexact Hlev
  iintro ⟨HD, Hv, HO⟩
  iapply Hk
  isplitl [HD]; · iexact HD
  isplitl [Hv]; · iexact Hv
  isplitl [Hrec]; · iexact Hrec
  isplitr; · iexact Hlev
  isplitl [HO]; · iexists _; iexact HO
  iexact Hr

/-! ## Loads and stores -/

abbrev slotM {e : EltTy} (A : Memref sig .tc .vmem S2x512x2048 e) (i : Fin 2) : MemV e := (A.slice (r2 i) (fun _ => rfl)).squeeze S512x2048 sqz
abbrev rowsM {e : EltTy} (A : Memref sig .tc .vmem S2048x2048 e) (j : Fin 4) : MemV e := A.slice (r1 j) (fun _ => rfl)

/-- A load of a slot of a double buffer. -/
theorem load_slot {e : EltTy} (A : Memref sig .tc .vmem S2x512x2048 e) (i : Fin 2) {hl : A.view.LoadsAt (r2 i).toLoadRect}
    {Q : α → sProp 𝕄} {k : ((r2 i).shape.Idx → Elt F e) → PT F α} {q : PosShare TreeShare} {X : S512x2048.Idx → Elt F e} :
    owns (c : Thread nD τ) (slotM A i) q X
      ⊢ iprop((owns (c : Thread nD τ) (slotM A i) q X -∗ wpp c (k (usq X)) Q) -∗ wpp c (.op (.load A (r2 i).toLoadRect hl) k) Q) := by
  unfold owns
  iintro ⟨%f, %hf, H⟩ Hk
  have e1 : (A.access (r2 i)).read (Elt F) f = usq X := by subst hf; exact (usq_sq _).symm
  have e2 : (slotM A i).view.set = (A.access (r2 i)).set := View.set_reshape _ _
  rw [e2]
  iapply (wp_load_rect 𝒱₀ (c : Thread nD τ) none Set.univ (m := A) (r := r2 i) (Finset.Subset.refl _)) $$ H
  iintro H
  rw [e1]
  iapply Hk
  iexists f; isplitr
  · ipureintro; exact hf
  · iexact H

/-- A load of a chunk of rows. -/
theorem load_rows {e : EltTy} (A : Memref sig .tc .vmem S2048x2048 e) (j : Fin 4) {hl : A.view.LoadsAt (r1 j).toLoadRect}
    {Q : α → sProp 𝕄} {k : ((r1 j).shape.Idx → Elt F e) → PT F α} {q : PosShare TreeShare} {X : S512x2048.Idx → Elt F e} :
    owns (c : Thread nD τ) (rowsM A j) q X
      ⊢ iprop((owns (c : Thread nD τ) (rowsM A j) q X -∗ wpp c (k X) Q) -∗ wpp c (.op (.load A (r1 j).toLoadRect hl) k) Q) := by
  unfold owns
  iintro ⟨%f, %hf, H⟩ Hk
  iapply (wp_load_rect 𝒱₀ (c : Thread nD τ) none Set.univ (m := A) (r := r1 j) (Finset.Subset.refl _)) $$ H
  iintro H
  rw [show (A.access (r1 j)).read (Elt F) f = X from hf]
  iapply Hk
  iexists f; isplitr
  · ipureintro; exact hf
  · iexact H

/-- A load whose value is not used, then a store, of a slot of a double buffer. -/
theorem store_slot {e : EltTy} (A : Memref sig .tc .vmem S2x512x2048 e) (i : Fin 2) {hl : A.view.LoadsAt (r2 i).toLoadRect}
    {w : (r2 i).shape.Idx → Elt F e} {hx : (A.access (r2 i)).Stores Finset.univ} {hm : Finset.univ = Finset.univ ∨ ∀ a, (r2 i).stride a = 1}
    {Q : α → sProp 𝕄} {k : PUnit → PT F α} :
    any F c (slotM A i)
      ⊢ iprop((owns (c : Thread nD τ) (slotM A i) fullShare (sq w) -∗ wpp c (k ⟨⟩) Q)
        -∗ wpp c (.op (.load A (r2 i).toLoadRect hl) fun _ => .op (.store A (r2 i) w Finset.univ hx hm) k) Q) := by
  unfold any owns
  iintro ⟨%Y, %f, %hf, H⟩ Hk
  have e2 : (slotM A i).view.set = (A.access (r2 i)).set := View.set_reshape _ _
  rw [e2]
  iapply (wp_load_rect 𝒱₀ (c : Thread nD τ) none Set.univ (m := A) (r := r2 i) (Finset.Subset.refl _)) $$ H
  iintro H
  iapply (wp_store 𝒱₀ (c : Thread nD τ) none Set.univ (m := A) (r := r2 i) (Mk := Finset.univ) (S := (A.access (r2 i)).set) (f := f)
    (subset_of_eq (View.setOn_univ _))) $$ H
  iintro H
  iapply Hk
  iexists ((A.access (r2 i)).write (Elt F) f w Finset.univ); isplitr
  · ipureintro
    show sq ((A.access (r2 i)).read (Elt F) _) = sq w
    rw [View.read_write_univ]
  · iexact H

/-- The same of a chunk of rows. -/
theorem store_rows {e : EltTy} (A : Memref sig .tc .vmem S2048x2048 e) (j : Fin 4) {hl : A.view.LoadsAt (r1 j).toLoadRect}
    {w : (r1 j).shape.Idx → Elt F e} {hx : (A.access (r1 j)).Stores Finset.univ} {hm : Finset.univ = Finset.univ ∨ ∀ a, (r1 j).stride a = 1}
    {Q : α → sProp 𝕄} {k : PUnit → PT F α} :
    any F c (rowsM A j)
      ⊢ iprop((owns (c : Thread nD τ) (rowsM A j) fullShare w -∗ wpp c (k ⟨⟩) Q)
        -∗ wpp c (.op (.load A (r1 j).toLoadRect hl) fun _ => .op (.store A (r1 j) w Finset.univ hx hm) k) Q) := by
  unfold any owns
  iintro ⟨%Y, %f, %hf, H⟩ Hk
  iapply (wp_load_rect 𝒱₀ (c : Thread nD τ) none Set.univ (m := A) (r := r1 j) (Finset.Subset.refl _)) $$ H
  iintro H
  iapply (wp_store 𝒱₀ (c : Thread nD τ) none Set.univ (m := A) (r := r1 j) (Mk := Finset.univ) (S := (A.access (r1 j)).set) (f := f)
    (subset_of_eq (View.setOn_univ _))) $$ H
  iintro H
  iapply Hk
  iexists ((A.access (r1 j)).write (Elt F) f w Finset.univ); isplitr
  · ipureintro; exact View.read_write_univ _ _
  · iexact H

end Cert.RingProof
-- ==== Proof.Talk.lean ====
/-
  One lemma for each kind of step in which the devices talk: a barrier signal, the wait on the barrier, the wait on a
  transfer that another device makes, a transfer to another device, and the wait for its completion at home.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

/-! ## The lists, one entry at a time -/

theorem drop_next {I : Type} {l : List I} {n : ℕ} {x : I} (h : l[n]? = some x) : l.drop n = x :: l.drop (n + 1) := by
  obtain ⟨hn, rfl⟩ := List.getElem?_eq_some_iff.mp h
  exact List.drop_eq_getElem_cons hn

theorem take_next {I : Type} {l : List I} {n : ℕ} {x : I} (h : l[n]? = some x) : l.take (n + 1) = l.take n ++ [x] := by
  rw [List.take_add_one, h]; rfl

theorem mem_at {I : Type} {l : List I} {n : ℕ} {x : I} (h : l[n]? = some x) : x ∈ l := by
  obtain ⟨hn, rfl⟩ := List.getElem?_eq_some_iff.mp h
  exact List.getElem_mem hn

theorem codes_sends {n : ℕ} {x : Code} (h : codes[n]? = some x) (hn : 3 ≤ n) : sends[n - 3]? = some x := by
  obtain ⟨k, rfl⟩ := Nat.exists_eq_add_of_le hn
  rw [Nat.add_sub_cancel_left]
  rwa [show 3 + k = k + 1 + 1 + 1 by omega] at h

theorem owed_next {n : ℕ} {x : Code} (h : codes[n]? = some x) :
    tallyL ((pays c).drop n) = tallyL ((pays c).drop (n + 1)) + tallyAt (remCell c x) (lvl x) (amtC x) := by
  unfold pays
  rw [← List.map_drop, ← List.map_drop, drop_next h, List.map_cons]
  exact add_comm _ _

theorem rcv_mem {x : Code} (h : x ∈ recvs) : rcvS c x ∈ cellsL c := List.mem_append_left _ (List.mem_map_of_mem h)
theorem snd_mem {x : Code} (h : x ∈ sends) : sndS x ∈ cellsL c := List.mem_append_right _ (List.mem_map_of_mem h)
/-- What a payment is made to is a cell that its device waits on. -/
theorem rem_mem {x : Code} (h : x ∈ codes) : remS c x ∈ cellsL (rot c (toOff x)) := by
  revert x c; decide

theorem remD_mem {x : Code} (h : x ∈ codes) (h2 : x.1 = 2) : remD x ∈ ({1, 2, 3} : Finset (Fin 4)) := by revert x; decide
theorem send_ne {x : Code} (h : x ∈ sends) : x.1 ≠ 2 := by revert x; decide
theorem sendN_lt {x : Code} (h : x ∈ sends) : sendN x % 72 = sendN x := by revert x; decide
theorem spotN_lt (x : Spot) : spotN x < 32 := by revert x; decide

/-! ## A wait on a cell of the protocol -/

theorem wait_cell (s : SemLoc sig) (hs : s ∈ cellsL c) (ι amt : ℕ) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ s amt K)
    (hx : (Rd (F := F) m).expect ((c : Thread nD τ), s) 0 = amt)
    {Q : α → sProp 𝕄} {k : PUnit → PT F α} {O : CellTallies nD τ sig ℕ} {W : Waits sig ℕ} :
    iprop((∃ K, recs m K) ∗ cred (tallyAt ((c : Thread nD τ), s) ι amt) ∗ owes (c : Thread nD τ) O W ∗ MayWait (c : Thread nD τ) s ι O
        ∗ atPos ER ((c : Thread nD τ), s) 0 ∅ 0)
      ⊢ iprop((iprop((∃ K, recs m K) ∗ (∃ W, owes (c : Thread nD τ) O W) ∗ semVal ((c : Thread nD τ), s) 0
            ∗ bigSep ((Rd (F := F) m).duties ((c : Thread nD τ), s) 0 \ ∅) (fun d => (Rd (F := F) m).payload ((c : Thread nD τ), s) 0 d))
          -∗ wpp c (k ⟨⟩) Q) -∗ wpp c (.op w k) Q) := by
  iintro ⟨⟨%K, #HR⟩, Hc, HO, HM, Ha⟩ Hk
  ihave HC := (recs_at m K c s hs) $$ HR
  icases HC with ⟨%κ, #HI, -⟩
  iapply (Rounds.wp_wait_rest_token 𝒱₀ ER (Rd (F := F) m) (c : Thread nD τ) none (κ := κ) hw (Set.mem_univ _) ι (O := O) (W := W) (R := 0) (m := 0) (T := ∅)
    ((Nat.zero_add _).trans hx.symm)) $$ [Hc HO HM Ha]
  · isplitr; · iexact HI
    isplitl [Hc]; · iexact Hc
    isplitl [HO]; · iexact HO
    isplitl [HM]; · iexact HM
    iexact Ha
  iintro ⟨HO, Ha, -, HP⟩
  imod (Rounds.cell_close ER (Rd (F := F) m) (κ := κ) (Set.mem_univ κ) (fun h => h) (R := 0 + 1) (fun r hr => duties_later m _ r hr)) $$ [Ha] with Hz
  · isplitr; · iexact HI
    iexact Ha
  iapply Hk
  isplitr; · iexists K; iexact HR
  isplitl [HO]; · iexists _; iexact HO
  isplitl [Hz]; · iexact Hz
  iexact HP

/-! ## The barrier -/

/-- A signal of the barrier hands over the places its receiver will write here. -/
theorem signal_step {n : ℕ} {x : Code} (hx : codes[n]? = some x) (h2 : x.1 = 2) (hn : n < 3) {d : Thread nD τ} {s : Sem sig} {a : Int}
    (hd : d = (rot c (toOff x) : Thread nD τ)) (hs : s = sig.barrier 0 rfl) (ha : a = ((1 : ℕ) : Int)) {Q : α → sProp 𝕄} {k : PUnit → PT F α} :
    iprop(barPay F (rot c (toOff x)) (remD x) ∗ St m c n 0 0)
      ⊢ iprop((St m c (n + 1) 0 0 -∗ wpp c (k ⟨⟩) Q) -∗ wpp c (.op (.semSignal d s a) k) Q) := by
  subst hd hs ha
  have e1 : remS c x = barS := if_pos h2
  have e2 : amtC x = 1 := if_pos h2
  unfold St
  rw [drop_next hx, bigSepL_cons', owed_next c hx, show n - 3 = 0 by omega, show n + 1 - 3 = 0 by omega]
  have et : tok F c x = dutyTok ER ((rot c (toOff x) : Thread nD τ), barS) 0 (remD x) := by
    unfold tok remCell; rw [if_pos h2, e1]
  have hm : barS ∈ cellsL (rot c (toOff x)) := e1 ▸ rem_mem c (mem_at hx)
  rw [et]
  unfold remCell
  rw [e1, e2]
  have hdm : remD x ∈ (Rd (F := F) m).duties ((rot c (toOff x) : Thread nD τ), barS) 0 := remD_mem (mem_at hx) h2
  rw [show barPay F (rot c (toOff x)) (remD x) = (Rd (F := F) m).payload ((rot c (toOff x) : Thread nD τ), barS) 0 (remD x) from rfl]
  iintro ⟨HP, ⟨%K, #HR⟩, #Hl, ⟨%W, HO⟩, ⟨HT, HTs⟩, Hr⟩ Hk
  ihave HC := (recs_at m K (rot c (toOff x)) barS hm) $$ HR
  icases HC with ⟨%κ, #HI, #Hre⟩
  iapply (Rounds.wp_signal 𝒱₀ ER (Rd (F := F) m) (c : Thread nD τ) none (κ := κ) (r := 0) (d := remD x)
    hdm rfl (lvl x) (tallyL ((pays c).drop (n + 1))) rfl) $$ [HP HO HT]
  · isplitr; · iexact HI
    isplitl [HO]; · iexact HO
    isplitl [HT]; · iexact HT
    isplitl [HP]; · iexact HP
    iexact Hre
  iintro HO
  iapply Hk
  isplitr; · iexists K; iexact HR
  isplitr; · iexact Hl
  isplitl [HO]; · iexists W; iexact HO
  isplitl [HTs]; · iexact HTs
  iexact Hr

theorem bar_all : iprop(barPay F c 1 ∗ barPay F c 2 ∗ barPay F c 3) ⊢ bigSepL sends (dstOf F c) := by
  unfold barPay
  rw [← bigSepL_append, ← bigSepL_append]
  exact (bigSepL_perm (by decide) (by decide) _).le

/-- The wait on the barrier: every place this device writes is its own from here. -/
theorem bar_step {s : Sem sig} {a : Int} (hs : s = sig.barrier 0 rfl) (ha : a = ((3 : ℕ) : Int)) {Q : α → sProp 𝕄} {k : PUnit → PT F α} :
    St m c 3 0 0 ⊢ iprop((St m c 3 1 0 -∗ wpp c (k ⟨⟩) Q) -∗ wpp c (.op (.semWait s a) k) Q) := by
  subst hs ha
  have hx : recvs[0]? = some (2, 0, 0) := rfl
  unfold St
  rw [drop_next hx, bigSepL_cons', take_next hx, bigSepL_append, bigSepL_singleton, if_pos rfl, if_neg (by decide : ¬(0 + 1 = 0))]
  iintro ⟨HR, #Hl, ⟨%W, HO⟩, HT, ⟨Hr, Hrs⟩, Hs, -, Hz, Hw⟩ Hk
  unfold rk
  icases Hr with ⟨Hc, Ha⟩
  iapply (wait_cell c m barS (rcv_mem c (x := (2, 0, 0)) (by decide)) 1 3 (wpE_semWait_eq 𝒱₀ (c : Thread nD τ) none Set.univ) (expect_bar m c)
    (O := tallyL ((pays c).drop 3)) (W := W)) $$ [HR HO Hc Ha]
  · isplitl [HR]; · iexact HR
    isplitl [Hc]; · iexact Hc
    isplitl [HO]; · iexact HO
    isplitr; · iapply (mayWait_at c (n := 3) (i := 1) (by decide) (by decide) barS); iexact Hl
    iexact Ha
  rw [rest_bar]
  iintro ⟨HR, HO, Hv, HP⟩
  iapply Hk
  isplitl [HR]; · iexact HR
  isplitr; · iexact Hl
  isplitl [HO]; · iexact HO
  isplitl [HT]; · iexact HT
  isplitl [Hrs]; · iexact Hrs
  isplitl [Hs]; · iexact Hs
  isplitl [HP]; · iapply (bar_all c); iexact HP
  isplitl [Hz Hv]
  · isplitl [Hz]; · iexact Hz
    iexact Hv
  iexact Hw

/-! ## Transfers between devices -/

/-- The wait on a transfer of another device: its chunk has landed. -/
theorem recv_step {n r w : ℕ} {x : Code} (hx : recvs[r]? = some x) (h2 : x.1 ≠ 2) (hr : 1 ≤ r) (hl : ∀ y ∈ codes.drop n, lvlR x < lvl y) (hL : lvlR x < nL)
    {sp' : Space} {s' : DmaSem sig} {dst' : MemH .bf16} {sh' : Shape} {e' : EltTy} {src' : Memref sig .tc sp' sh' e'} (hq : s' = dsem (spotN (spotR c x)))
    {hsrc : src'.view.WordExact} {hdst : dst'.view.WordExact} {Q : α → sProp 𝕄} {k : PUnit → PT F α} :
    St m c n r w
      ⊢ iprop((iprop(owns (c : Thread nD τ) (spotM (spotR c x)) fullShare (spotV m c (spotR c x)) ∗ St m c n (r + 1) w) -∗ wpp c (k ⟨⟩) Q)
        -∗ wpp c (.op (.waitDma2 s' src' dst' hsrc hdst) k) Q) := by
  subst hq
  have e1 : rcvS c x = .dma (dsem (spotN (spotR c x))) := if_neg h2
  have e2 : amtR x = NB := if_neg h2
  have e3 : dmaPay m c (dsem (spotN (spotR c x))).val = owns (c : Thread nD τ) (spotM (spotR c x)) fullShare (spotV m c (spotR c x)) := by
    have h := spotN_lt (spotR c x)
    show dmaPay m c (spotN (spotR c x) % 72) = _
    rw [Nat.mod_eq_of_lt (by omega)]
    unfold dmaPay
    rw [if_pos h, spotOf_spotN]
  unfold St
  rw [drop_next hx, bigSepL_cons', take_next hx, bigSepL_append, bigSepL_singleton, if_neg (by omega : ¬(r = 0)), if_neg (by omega : ¬(r + 1 = 0))]
  iintro ⟨HR, #Hl, ⟨%W, HO⟩, HT, ⟨Hr, Hrs⟩, Hs, Hd, Hz, Hw⟩ Hk
  unfold rk rcvCell
  rw [e1, e2]
  icases Hr with ⟨Hc, Ha⟩
  iapply (wait_cell c m (.dma (dsem (spotN (spotR c x)))) (e1 ▸ rcv_mem c (mem_at hx)) (lvlR x) NB
    (fun K => (wpE_waitDma2_eq 𝒱₀ (c : Thread nD τ) none Set.univ K).trans (by rw [NB_eq])) (expect_dma m c _)
    (O := tallyL ((pays c).drop n)) (W := W)) $$ [HR HO Hc Ha]
  · isplitl [HR]; · iexact HR
    isplitl [Hc]; · iexact Hc
    isplitl [HO]; · iexact HO
    isplitr; · iapply (mayWait_at c (n := n) (i := lvlR x) hL (fun y hy => ⟨hl y hy, lvl_lt y (List.mem_of_mem_drop hy)⟩) _); iexact Hl
    iexact Ha
  rw [rest_dma, e3]
  iintro ⟨HR, HO, Hv, HP⟩
  iapply Hk
  isplitl [HP]; · iexact HP
  isplitl [HR]; · iexact HR
  isplitr; · iexact Hl
  isplitl [HO]; · iexact HO
  isplitl [HT]; · iexact HT
  isplitl [Hrs]; · iexact Hrs
  isplitl [Hs]; · iexact Hs
  isplitl [Hd]; · iexact Hd
  isplitl [Hz Hv]
  · isplitl [Hz]; · iexact Hz
    iexact Hv
  iexact Hw

/-- A transfer to another device of what the protocol says lands there. -/
theorem send_step {n r : ℕ} {x : Code} (hx : codes[n]? = some x) (hn : 3 ≤ n) (hr : 1 ≤ r)
    {spS : Space} (src : Memref sig .tc spS S512x2048 .bf16) {q : PosShare TreeShare} {X : C16 F}
    (hX : X = spotV m (rot c (toOff x)) (spotTo c x)) (hpay : owns (c : Thread nD τ) src q X ⊢ dmaPay m c (sendN x))
    {src' : Memref sig .tc spS S512x2048 .bf16} {dst' : MemH .bf16} {d' : Dev nD} {sS sR : DmaSem sig}
    (hs : src' = src) (hd : dst' = spotM (spotTo c x)) (hv : d' = rot c (toOff x)) (hS : sS = dsem (sendN x)) (hR : sR = dsem (spotN (spotTo c x)))
    {hsc : dst'.view.ref.isScScratch = false} {hsrc : src'.view.WordExact} {hdst : dst'.view.WordExact}
    {hsem : DmaTarget.Typed (nD := nD) (τ := τ) (p := .tc) spS (.dma sR) (.remote (d' : Thread nD τ) dst' (.dma sS) hsc)}
    {Q : α → sProp 𝕄} {k : PUnit → PT F α} :
    iprop(owns (c : Thread nD τ) src q X ∗ St m c n r 0)
      ⊢ iprop((St m c (n + 1) r 0 -∗ wpp c (k ⟨⟩) Q)
        -∗ wpp c (.op (.enqueueDma src' (.remote (d' : Thread nD τ) dst' (.dma sS) hsc) (.dma sR) hsrc hdst hsem) k) Q) := by
  subst hs hd hv hS hR
  have hx' := codes_sends hx hn
  have h2 := send_ne (mem_at hx')
  have e1 : remS c x = .dma (dsem (spotN (spotTo c x))) := if_neg h2
  have e2 : amtC x = NB := if_neg h2
  have e4 : remD x = 0 := if_neg h2
  have e3 : dmaPay m (rot c (toOff x)) (dsem (spotN (spotTo c x))).val
      = owns (rot c (toOff x) : Thread nD τ) (spotM (spotTo c x)) fullShare (spotV m (rot c (toOff x)) (spotTo c x)) := by
    have h := spotN_lt (spotTo c x)
    show dmaPay m _ (spotN (spotTo c x) % 72) = _
    rw [Nat.mod_eq_of_lt (by omega)]
    unfold dmaPay
    rw [if_pos h, spotOf_spotN]
  have e5 : dmaPay m c (dsem (sendN x)).val = dmaPay m c (sendN x) := by
    show dmaPay m c (sendN x % 72) = _
    rw [sendN_lt (mem_at hx')]
  unfold St
  rw [drop_next hx, bigSepL_cons', owed_next c hx, show n + 1 - 3 = n - 3 + 1 by omega, take_next hx', drop_next hx', bigSepL_cons', if_neg (by omega : ¬(r = 0)),
    List.drop_zero, List.drop_zero, bigSepL_append, bigSepL_singleton]
  have et : tok F c x = iprop(dutyTok ER ((rot c (toOff x) : Thread nD τ), .dma (dsem (spotN (spotTo c x)))) 0 0 ∗ dutyTok ER (sndCell c x) 0 0
      ∗ atPos ER (sndCell c x) 0 ∅ 0) := by unfold tok remCell; rw [if_neg h2, e1, e4]
  have hm : (.dma (dsem (spotN (spotTo c x))) : SemLoc sig) ∈ cellsL (rot c (toOff x)) := e1 ▸ rem_mem c (mem_at hx)
  have ed : dstOf F c x = iprop(∃ Y, ∃ g, ⌜(spotM (spotTo c x)).view.read (Elt F) g = Y⌝
      ∗ ((spotM (spotTo c x)).view.loc (rot c (toOff x) : Thread nD τ) ↦[(spotM (spotTo c x)).view.set]{fullShare} g)) := rfl
  rw [et, ed, if_neg (by omega : ¬(r = 0))]
  unfold remCell
  rw [e1, e2]
  have eo : (owns (c : Thread nD τ) src' q X : sProp 𝕄)
      = iprop(∃ f, ⌜src'.view.read (Elt F) f = X⌝ ∗ (src'.view.loc (c : Thread nD τ) ↦[src'.view.set]{q} f)) := rfl
  rw [eo]
  have hN : (spotM (spotTo c x)).view.amount (.dma (dsem (spotN (spotTo c x)))) = NB := NB_eq _
  iintro ⟨⟨%f, %hf, Hs⟩, ⟨%K, #HR⟩, #Hl, ⟨%W, HO⟩, ⟨⟨HT, HTs, Hat⟩, Hts⟩, Hr, Hsk, ⟨⟨%Y, %g, %hg, Hd⟩, Hds⟩, Hz⟩ Hk
  ihave HC := (recs_at m K (rot c (toOff x)) _ hm) $$ HR
  icases HC with ⟨%κ, #HI, #Hre⟩
  ihave HC' := (recs_at m K c _ (snd_mem c (mem_at hx'))) $$ HR
  icases HC' with ⟨%κ', #HI', #Hre'⟩
  iapply (Rounds.wp_send_pointsTo 𝒱₀ ER (Rd (F := F) m) (c : Thread nD τ) none (κ₁ := κ') (κ₂ := κ) (r₁ := 0) (r₂ := 0) (d₁ := 0) (d₂ := 0) (q := q) (fs := f) (fd := g)
    (by rw [duties_dma]; exact Finset.mem_singleton_self _) (by rw [duties_dma]; exact Finset.mem_singleton_self _)
    (lvl x) 0 NB (hN : (spotM (spotTo c x)).view.amount (.dma (dsem (spotN (spotTo c x)))) = NB) (amount_dma m c _ 0 0) (amount_dma m _ _ 0 0) (tallyL ((pays c).drop (n + 1))) rfl
    (by
      show _ ⊢ dmaPay m c (dsem (sendN x)).val
      rw [e5]
      exact (owns_intro (c : Thread nD τ) src' q f).trans (by rw [hf]; exact hpay))
    (by
      show _ ⊢ dmaPay m (rot c (toOff x)) (dsem (spotN (spotTo c x))).val
      rw [e3, ← hX, ← (View.read_write_univ (v := (spotM (spotTo c x)).view) g (src'.view.read (Elt F) f)).trans hf]
      exact owns_intro (rot c (toOff x) : Thread nD τ) (spotM (spotTo c x)) fullShare _)) $$ [Hs HO HT HTs Hd]
  · isplitr; · iexact HI'
    isplitr; · iexact HI
    isplitl [Hs]; · iexact Hs
    isplitl [Hd]; · iexact Hd
    isplitl [HO]; · iexact HO
    isplitl [HTs]; · iexact HTs
    isplitr; · iexact Hre'
    isplitl [HT]; · iexact HT
    iexact Hre
  iintro ⟨Hc, HO⟩
  iapply Hk
  isplitr; · iexists K; iexact HR
  isplitr; · iexact Hl
  isplitl [HO]; · iexists W; iexact HO
  isplitl [Hts]; · iexact Hts
  isplitl [Hr]; · iexact Hr
  isplitl [Hsk Hc Hat]
  · isplitl [Hsk]; · iexact Hsk
    unfold sk
    isplitl [Hc]; · iexact Hc
    iexact Hat
  isplitl [Hds]; · iexact Hds
  iexact Hz

/-- The wait for the completion at home of a transfer: what it read comes back. -/
theorem sent_step {w : ℕ} {x : Code} (hx : sends[w]? = some x)
    {sp sp' : Space} {s' : DmaSem sig} {sh sh' : Shape} {e e' : EltTy} {dst' : Memref sig .tc sp sh e} {src' : Memref sig .tc sp' sh' e'}
    (hq : s' = dsem (sendN x)) (ha : dst'.view.dmaCredit = NB)
    {hsrc : src'.view.WordExact} {hdst : dst'.view.WordExact} {Q : α → sProp 𝕄} {k : PUnit → PT F α} :
    St m c 27 25 w
      ⊢ iprop((iprop(dmaPay m c (sendN x) ∗ St m c 27 25 (w + 1)) -∗ wpp c (k ⟨⟩) Q)
        -∗ wpp c (.op (.waitDma2 s' src' dst' hsrc hdst) k) Q) := by
  subst hq
  have e5 : dmaPay m c (dsem (sendN x)).val = dmaPay m c (sendN x) := by
    show dmaPay m c (sendN x % 72) = _
    rw [sendN_lt (mem_at hx)]
  have hx' : (sends.take (27 - 3))[w]? = some x := hx
  unfold St
  rw [drop_next hx', bigSepL_cons', take_next hx, bigSepL_append, bigSepL_singleton]
  iintro ⟨HR, #Hl, ⟨%W, HO⟩, HT, Hr, ⟨Hs, Hss⟩, Hd, Hz, Hw⟩ Hk
  unfold sk
  icases Hs with ⟨Hc, Ha⟩
  iapply (wait_cell c m (sndS x) (snd_mem c (mem_at hx)) 0 NB
    (fun K => (wpE_waitDma2_eq 𝒱₀ (c : Thread nD τ) none Set.univ K).trans (by rw [ha])) (expect_dma m c _)
    (O := tallyL ((pays c).drop 27)) (W := W)) $$ [HR HO Hc Ha]
  · isplitl [HR]; · iexact HR
    isplitl [Hc]; · iexact Hc
    isplitl [HO]; · iexact HO
    isplitr; · iapply (mayWait_zero c 27 _); iexact Hl
    iexact Ha
  rw [rest_dma, e5]
  iintro ⟨HR, HO, Hv, HP⟩
  iapply Hk
  isplitl [HP]; · iexact HP
  isplitl [HR]; · iexact HR
  isplitr; · iexact Hl
  isplitl [HO]; · iexact HO
  isplitl [HT]; · iexact HT
  isplitl [Hr]; · iexact Hr
  isplitl [Hss]; · iexact Hss
  isplitl [Hd]; · iexact Hd
  isplitl [Hz]; · iexact Hz
  isplitl [Hw]; · iexact Hw
  iexact Hv

end Cert.RingProof
-- ==== Proof.Places.lean ====
/-
  The places, semaphores, devices and payloads as the program spells them, equal to the protocol's own names for them.
-/
module

public import proofs.«01_k».proof.Proof.Talk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

/-! ## Devices -/

theorem rot_rot (c : Dev nD) (a b : ℕ) : rot (rot c a) b = rot c (a + b) := by
  apply Fin.ext
  show ((c.val + a) % 4 + b) % 4 = (c.val + (a + b)) % 4
  omega
theorem rot_zero (c : Dev nD) : rot c 0 = c := by revert c; decide
theorem rot_four (c : Dev nD) : rot c 4 = c := by revert c; decide

theorem dev1 : ∀ c : Dev nD, (⟨k0_dev1 c, k0_dev1_lt c⟩ : Dev nD) = rot c 1 := by decide
theorem dev2 : ∀ c : Dev nD, (⟨k0_dev2 c, k0_dev2_lt c⟩ : Dev nD) = rot c 2 := by decide
theorem dev3 : ∀ c : Dev nD, (⟨k0_dev3 c, k0_dev3_lt c⟩ : Dev nD) = rot c 3 := by decide
theorem dev4 : ∀ c : Dev nD, (⟨k0_dev4 c, k0_dev4_lt c⟩ : Dev nD) = rot c 1 := by decide
theorem dev5 : ∀ c : Dev nD, (⟨k0_dev5 c, k0_dev5_lt c⟩ : Dev nD) = rot c 1 := by decide
theorem dev6 : ∀ c : Dev nD, (⟨k0_dev6 c, k0_dev6_lt c⟩ : Dev nD) = rot c 3 := by decide
theorem dev7 : ∀ c : Dev nD, (⟨k0_dev7 c, k0_dev7_lt c⟩ : Dev nD) = rot c 3 := by decide
theorem dev8 : ∀ c : Dev nD, (⟨k0_dev8 c, k0_dev8_lt c⟩ : Dev nD) = rot c 3 := by decide
theorem dev9 : ∀ c : Dev nD, (⟨k0_dev9 c, k0_dev9_lt c⟩ : Dev nD) = rot c 3 := by decide
theorem dev10 : ∀ c : Dev nD, (⟨k0_dev10 c, k0_dev10_lt c⟩ : Dev nD) = rot c 1 := by decide
theorem dev11 : ∀ c : Dev nD, (⟨k0_dev11 c, k0_dev11_lt c⟩ : Dev nD) = rot c 1 := by decide
theorem dev12 : ∀ c : Dev nD, (⟨k0_dev12 c, k0_dev12_lt c⟩ : Dev nD) = rot c 1 := by decide
theorem dev13 : ∀ c : Dev nD, (⟨k0_dev13 c, k0_dev13_lt c⟩ : Dev nD) = rot c 1 := by decide
theorem dev14 : ∀ c : Dev nD, (⟨k0_dev14 c, k0_dev14_lt c⟩ : Dev nD) = rot c 3 := by decide
theorem dev15 : ∀ c : Dev nD, (⟨k0_dev15 c, k0_dev15_lt c⟩ : Dev nD) = rot c 3 := by decide
theorem dev16 : ∀ c : Dev nD, (⟨k0_dev16 c, k0_dev16_lt c⟩ : Dev nD) = rot c 1 := by decide
theorem dev17 : ∀ c : Dev nD, (⟨k0_dev17 c, k0_dev17_lt c⟩ : Dev nD) = rot c 3 := by decide
theorem dev18 : ∀ c : Dev nD, (⟨k0_dev18 c, k0_dev18_lt c⟩ : Dev nD) = rot c 1 := by decide
theorem dev19 : ∀ c : Dev nD, (⟨k0_dev19 c, k0_dev19_lt c⟩ : Dev nD) = rot c 3 := by decide
theorem dev20 : ∀ c : Dev nD, (⟨k0_dev20 c, k0_dev20_lt c⟩ : Dev nD) = rot c 1 := by decide
theorem dev21 : ∀ c : Dev nD, (⟨k0_dev21 c, k0_dev21_lt c⟩ : Dev nD) = rot c 3 := by decide
theorem dev22 : ∀ c : Dev nD, (⟨k0_dev22 c, k0_dev22_lt c⟩ : Dev nD) = rot c 1 := by decide
theorem dev23 : ∀ c : Dev nD, (⟨k0_dev23 c, k0_dev23_lt c⟩ : Dev nD) = rot c 3 := by decide
theorem dev24 : ∀ c : Dev nD, (⟨k0_dev24 c, k0_dev24_lt c⟩ : Dev nD) = rot c 3 := by decide
theorem dev25 : ∀ c : Dev nD, (⟨k0_dev25 c, k0_dev25_lt c⟩ : Dev nD) = rot c 3 := by decide
theorem dev26 : ∀ c : Dev nD, (⟨k0_dev26 c, k0_dev26_lt c⟩ : Dev nD) = rot c 1 := by decide
theorem dev27 : ∀ c : Dev nD, (⟨k0_dev27 c, k0_dev27_lt c⟩ : Dev nD) = rot c 1 := by decide

/-! ## Memrefs -/

theorem slice_eq {sp : Space} {S S' : Shape} {e : EltTy} (A : Memref sig .tc sp S e) {off off' : Fin S.rank → ℕ} {sz : Fin S.rank → ℕ} (h : off = off')
    {hi : ∀ a, off a + sz a ≤ S.size a} {hi' : ∀ a, off' a + sz a ≤ S.size a}
    {hs : ∀ a, (Rect.unit (s := S) off sz hi).stride a = 1} {hs' : ∀ a, (Rect.unit (s := S) off' sz hi').stride a = 1} :
    A.slice (Rect.unit (s := S) off sz hi) hs ≍ A.slice (Rect.unit (s := S) off' sz hi') hs' := by
  subst h; rfl

/-- The word that spells chunk `j`'s first row. -/
abbrev wd (j : Fin 4) : BitVec 32 := BitVec.ofNat 32 (512 * j.val)
/-- The word that spells an offset round the ring. -/
abbrev rw' (r : Fin 4) : BitVec 32 := BitVec.ofNat 32 r.val

theorem off1_eq : ∀ (c : Dev nD) (r j : Fin 4), r ≠ 0 → k0_off1 c (rw' r) (wd j) = ![2048 * (rot c r.val).val + 512 * j.val, 0] := by decide
theorem off2_eq : ∀ (c : Dev nD) (j : Fin 4), k0_off2 c (wd j) = ![2048 * (rot c (0 : Fin 4).val).val + 512 * j.val, 0] := by decide

/-- A chunk of 512 rows at a spelt offset. -/
abbrev at8 {e : EltTy} (A : Memref sig .tc .hbm S8192x2048 e) (off : Fin 2 → ℕ) (h : ∀ a, off a + S512x2048.size a ≤ S8192x2048.size a) : MemH e :=
  A.slice (Rect.unit (s := S8192x2048) off S512x2048.size h) (fun _ => rfl)
theorem at8_eq {e : EltTy} (A : Memref sig .tc .hbm S8192x2048 e) {off off' : Fin 2 → ℕ} (e : off = off') {h : ∀ a, off a + S512x2048.size a ≤ S8192x2048.size a}
    (h' : ∀ a, off' a + S512x2048.size a ≤ S8192x2048.size a) : at8 A off h = at8 A off' h' := by subst e; rfl

theorem t_at {c : Dev nD} (r j : Fin 4) (hr : r ≠ 0) {h : ∀ a, k0_off1 c (rw' r) (wd j) a + S512x2048.size a ≤ S8192x2048.size a} :
    at8 A0 (k0_off1 c (rw' r) (wd j)) h = tM (rot c r.val) j := at8_eq A0 (off1_eq c r j hr) (inb8 _ _)
theorem t_at0 {c : Dev nD} (j : Fin 4) {h : ∀ a, k0_off2 c (wd j) a + S512x2048.size a ≤ S8192x2048.size a} :
    at8 A0 (k0_off2 c (wd j)) h = tM (rot c (0 : Fin 4).val) j := at8_eq A0 (off2_eq c j) (inb8 _ _)
theorem t16_at {c : Dev nD} (r j : Fin 4) (hr : r ≠ 0) {h : ∀ a, k0_off1 c (rw' r) (wd j) a + S512x2048.size a ≤ S8192x2048.size a} :
    at8 A5 (k0_off1 c (rw' r) (wd j)) h = t16M (rot c r.val) j := at8_eq A5 (off1_eq c r j hr) (inb8 _ _)
theorem out_at {c : Dev nD} (r j : Fin 4) (hr : r ≠ 0) {h : ∀ a, k0_off1 c (rw' r) (wd j) a + S512x2048.size a ≤ S8192x2048.size a} :
    at8 A2 (k0_off1 c (rw' r) (wd j)) h = outM (rot c r.val) j := at8_eq A2 (off1_eq c r j hr) (inb8 _ _)
theorem out_at0 {c : Dev nD} (j : Fin 4) {h : ∀ a, k0_off2 c (wd j) a + S512x2048.size a ≤ S8192x2048.size a} :
    at8 A2 (k0_off2 c (wd j)) h = outM (rot c (0 : Fin 4).val) j := at8_eq A2 (off2_eq c j) (inb8 _ _)

/-- A chunk of a four-block array at a spelt offset. -/
abbrev at4 (A : Memref sig .tc .hbm S4x2048x2048 .bf16) (off : Fin 3 → ℕ) (h : ∀ a, off a + S1x512x2048.size a ≤ S4x2048x2048.size a) : MemH .bf16 :=
  (A.slice (Rect.unit (s := S4x2048x2048) off S1x512x2048.size h) (fun _ => rfl)).squeeze S512x2048 sqz
theorem ag_at {off : Fin 3 → ℕ} (b j : Fin 4) (e : off = ![b.val, 512 * j.val, 0]) {h : ∀ a, off a + S1x512x2048.size a ≤ S4x2048x2048.size a} :
    at4 A4 off h = agM b j := by subst e; rfl

theorem off4_eq : ∀ c : Dev nD, k0_off4 c = ![c.val, 512 * (0 : Fin 4).val, 0] := by decide
theorem off6_eq : ∀ c : Dev nD, k0_off6 c = ![c.val, 512 * (1 : Fin 4).val, 0] := by decide
theorem off8_eq : ∀ c : Dev nD, k0_off8 c = ![c.val, 512 * (2 : Fin 4).val, 0] := by decide
theorem off10_eq : ∀ c : Dev nD, k0_off10 c = ![c.val, 512 * (3 : Fin 4).val, 0] := by decide
theorem off12_eq : ∀ (c : Dev nD) (r : Fin 4), r ≠ 0 → k0_off12 c (rw' r) = ![(rot c r.val).val, 512 * (0 : Fin 4).val, 0] := by decide
theorem off14_eq : ∀ (c : Dev nD) (r : Fin 4), r ≠ 0 → k0_off14 c (rw' r) = ![(rot c r.val).val, 512 * (1 : Fin 4).val, 0] := by decide
theorem off16_eq : ∀ (c : Dev nD) (r : Fin 4), r ≠ 0 → k0_off16 c (rw' r) = ![(rot c r.val).val, 512 * (2 : Fin 4).val, 0] := by decide
theorem off18_eq : ∀ (c : Dev nD) (r : Fin 4), r ≠ 0 → k0_off18 c (rw' r) = ![(rot c r.val).val, 512 * (3 : Fin 4).val, 0] := by decide

/-! ## Semaphores -/

/-- The semaphore of a gathered chunk at a spelt offset. -/
abbrev sem4 (off : Fin 2 → ℕ) (h : ∀ a, off a + S1x1.size a ≤ S4x4.size a) : DmaSem sig :=
  ((cc0_scratch9.slice (Rect.unit (s := S4x4) off S1x1.size h)).squeeze S_ squeezes_S1x1_S_).sem
theorem inbS (b j : Fin 4) : ∀ a, (![b.val, j.val] : Fin 2 → ℕ) a + S1x1.size a ≤ S4x4.size a := by revert b j; decide
theorem sem4_lit : ∀ b j : Fin 4, sem4 ![b.val, j.val] (inbS b j) = dsem (spotN (1, b, j)) := by decide
theorem sem_at {off : Fin 2 → ℕ} (b j : Fin 4) (e : off = ![b.val, j.val]) {h : ∀ a, off a + S1x1.size a ≤ S4x4.size a} :
    sem4 off h = dsem (spotN (1, b, j)) := by subst e; exact sem4_lit b j

theorem off3_eq : ∀ c : Dev nD, k0_off3 c = ![c.val, (0 : Fin 4).val] := by decide
theorem off5_eq : ∀ c : Dev nD, k0_off5 c = ![c.val, (1 : Fin 4).val] := by decide
theorem off7_eq : ∀ c : Dev nD, k0_off7 c = ![c.val, (2 : Fin 4).val] := by decide
theorem off9_eq : ∀ c : Dev nD, k0_off9 c = ![c.val, (3 : Fin 4).val] := by decide
theorem off11_eq : ∀ (c : Dev nD) (r : Fin 4), r ≠ 0 → k0_off11 c (rw' r) = ![(rot c r.val).val, (0 : Fin 4).val] := by decide
theorem off13_eq : ∀ (c : Dev nD) (r : Fin 4), r ≠ 0 → k0_off13 c (rw' r) = ![(rot c r.val).val, (1 : Fin 4).val] := by decide
theorem off15_eq : ∀ (c : Dev nD) (r : Fin 4), r ≠ 0 → k0_off15 c (rw' r) = ![(rot c r.val).val, (2 : Fin 4).val] := by decide
theorem off17_eq : ∀ (c : Dev nD) (r : Fin 4), r ≠ 0 → k0_off17 c (rw' r) = ![(rot c r.val).val, (3 : Fin 4).val] := by decide

/-! ## Payloads -/

theorem cast_usq {β : Type} (X : S512x2048.Idx → β) : shapeCast S512x2048 (usq X) shapeCasts_S1x512x2048_S512x2048 = X := sq_usq X
theorem sq_cast {β : Type} (X : S512x2048.Idx → β) : sq (shapeCast S1x512x2048 X shapeCasts_S512x2048_S1x512x2048) = X := sq_usq X
theorem cast_same {β : Type} (X : S512x2048.Idx → β) : shapeCast S512x2048 X shapeCasts_S512x2048_S512x2048 = X := by
  funext x; exact congrArg X (by rw [Shape.reshapeEquiv_self])

theorem pay_cast (X : C32 F) : sq (k0_pay1 (F := F) (usq X)) = castP X := by
  unfold k0_pay1; dsimp only; rw [cast_usq]; exact sq_cast _
theorem pay_rows (X : C32 F) : k0_pay10 (F := F) (usq X) = castP X := by
  unfold k0_pay10; dsimp only; rw [cast_usq]; exact cast_same _
theorem pay_add (Y : C16 F) (X : C32 F) : sq (k0_pay22 (F := F) (usq Y) (usq X)) = addP Y X := by
  unfold k0_pay22; dsimp only; rw [cast_usq, cast_usq]; exact sq_cast _
theorem pay_ext (X : C16 F) : sq (k0_pay38 (F := F) (usq X)) = extP X := by
  unfold k0_pay38; dsimp only; rw [cast_usq]; exact sq_cast _
theorem pay_y (P Q O : C16 F) (W : S2048x2048.Idx → Elt F .bf16) : k0_pay27 (F := F) (usq P) (usq Q) O W = castP (dotP P Q O W) := by
  unfold k0_pay27 dotP; dsimp only; exact cast_same _
theorem pay_out (X : C32 F) : sq (k0_pay28 (F := F) X) = X := sq_cast _

end Cert.RingProof
-- ==== Proof.Blocks.lean ====
/-
  The blocks of the kernel: each repeats, with other slots, chunks and semaphores, along the program.
-/
module

public import proofs.«01_k».proof.Proof.Places

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

/-- A part of the body, before it is given the memrefs and semaphores. -/
abbrev Parts (β : Type 1) : Type 1 :=
  ∀ (arg0 : Memref sig .tc .hbm S8192x2048 .f32) (_ : arg0.IsWhole)
    (arg1 : Memref sig .tc .hbm S2048x2048 .f32) (_ : arg1.IsWhole)
    (arg2 : Memref sig .tc .hbm S8192x2048 .f32) (_ : arg2.IsWhole)
    (arg3 : Memref sig .tc .hbm S4x2048x2048 .bf16) (_ : arg3.IsWhole)
    (arg4 : Memref sig .tc .hbm S4x2048x2048 .bf16) (_ : arg4.IsWhole)
    (arg5 : Memref sig .tc .hbm S8192x2048 .bf16) (_ : arg5.IsWhole)
    (arg6 : Memref sig .tc .vmem S2x512x2048 .f32) (_ : arg6.IsWhole)
    (arg7 : Memref sig .tc .vmem S2x512x2048 .bf16) (_ : arg7.IsWhole)
    (arg8 : Memref sig .tc .vmem S2048x2048 .bf16) (_ : arg8.IsWhole)
    (arg9 : Memref sig .tc .vmem S2048x2048 .bf16) (_ : arg9.IsWhole)
    (arg10 : Memref sig .tc .vmem S2x512x2048 .bf16) (_ : arg10.IsWhole)
    (arg11 : Memref sig .tc .vmem S2048x2048 .bf16) (_ : arg11.IsWhole)
    (arg12 : Memref sig .tc .vmem S2x512x2048 .bf16) (_ : arg12.IsWhole)
    (arg13 : Memref sig .tc .vmem S2x512x2048 .f32) (_ : arg13.IsWhole)
    (arg14 : DmaSems sig S4x4)
    (arg15 : DmaSems sig S4x4)
    (arg16 : DmaSems sig S4x4)
    (arg17 : DmaSems sig S4x4)
    (arg18 : DmaSems sig S8), β

/-- A part of the body on the region's own memrefs and semaphores. -/
def onA {β : Type 1} (f : Parts β) : β :=
  f A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) cc0_scratch8 cc0_scratch9 cc0_scratch10 cc0_scratch11 cc0_scratch12

theorem cur2 {A B D : sProp 𝕄} (h : iprop(A ∗ B) ⊢ D) : A ⊢ iprop(B -∗ D) := by
  iintro HA HB
  iapply h
  isplitl [HA]; · iexact HA
  iexact HB
theorem cur3 {A B C D : sProp 𝕄} (h : iprop(A ∗ B ∗ C) ⊢ D) : A ⊢ iprop(B -∗ C -∗ D) := by
  iintro HA HB HC
  iapply h
  isplitl [HA]; · iexact HA
  isplitl [HB]; · iexact HB
  iexact HC
theorem cur4 {A B C E D : sProp 𝕄} (h : iprop(A ∗ B ∗ C ∗ E) ⊢ D) : A ⊢ iprop(B -∗ C -∗ E -∗ D) := by
  iintro HA HB HC HE
  iapply h
  isplitl [HA]; · iexact HA
  isplitl [HB]; · iexact HB
  isplitl [HC]; · iexact HC
  iexact HE
variable {α : Type} (c : Dev nD) (m : (ℓ : Loc nD τ sig) → Buf (Elt F) ℓ)

/-! ## Pools: the chunks a list names, taken from the front before use and put back after -/

abbrev RJ : Type := Fin 4 × Fin 4

def Pool {I : Type} (l : List I) (P P' : I → sProp 𝕄) (a b : ℕ) : sProp 𝕄 := iprop(bigSepL (l.drop a) P ∗ bigSepL (l.take b) P')

theorem pool_take {I : Type} {l : List I} {P P' : I → sProp 𝕄} {a b : ℕ} {x : I} (h : l[a]? = some x) :
    Pool l P P' a b ⊢ iprop(P x ∗ Pool l P P' (a + 1) b) := by
  unfold Pool
  rw [drop_next h, bigSepL_cons']
  iintro ⟨⟨H, H1⟩, H2⟩
  isplitl [H]; · iexact H
  isplitl [H1]; · iexact H1
  iexact H2

theorem pool_put {I : Type} {l : List I} {P P' : I → sProp 𝕄} {a b : ℕ} {x : I} (h : l[b]? = some x) :
    iprop(P' x ∗ Pool l P P' a b) ⊢ Pool l P P' a (b + 1) := by
  unfold Pool
  rw [take_next h, bigSepL_append, bigSepL_singleton]
  iintro ⟨H, H1, H2⟩
  isplitl [H1]; · iexact H1
  isplitl [H2]; · iexact H2
  iexact H

theorem any_of {sp : Space} {sh : Shape} {e : EltTy} {v : Memref sig .tc sp sh e} {X : sh.Idx → Elt F e} :
    owns (c : Thread nD τ) v fullShare X ⊢ any F c v := by
  unfold any; iintro H; iexists X; iexact H

/-- The operand's chunks in the order they are loaded: `(r, j)` is chunk `j` of block `rot c r`. -/
def tl : List RJ := [(2,0),(2,1),(2,2),(2,3),(3,0),(3,1),(1,2),(1,3),(0,0),(0,1),(0,2),(0,3),(1,0),(1,1),(3,2),(3,3)]
/-- The narrowed chunks in the order they are written and sent. -/
def el : List RJ := [(2,0),(2,1),(2,2),(2,3),(3,0),(3,1),(1,2),(1,3),(1,0),(1,1),(3,2),(3,3)]
/-- The result's chunks in the order they are written. -/
def ol : List RJ := [(0,0),(0,1),(0,2),(0,3),(1,0),(3,0),(1,1),(3,1),(2,0),(1,2),(3,2),(2,1),(1,3),(3,3),(2,2),(2,3)]
/-- The four chunks of a block. -/
def jl : List (Fin 4) := [0, 1, 2, 3]

def tV (x : RJ) : C32 F := tch m c (rot c x.1.val) x.2
/-- Chunks of an argument: those from the `a`-th on are still to be loaded, the first `b` are back. -/
def Cp {I : Type} (l : List I) (M : I → MemH .f32) (V : I → C32 F) (a b : ℕ) : sProp 𝕄 :=
  Pool l (fun x => owns (c : Thread nD τ) (M x) fullShare (V x)) (fun x => owns (c : Thread nD τ) (M x) fullShare (V x)) a b
abbrev Tp (a b : ℕ) : sProp 𝕄 := Cp c tl (fun x => tM (rot c x.1.val) x.2) (tV c m) a b
abbrev Wp (a b : ℕ) : sProp 𝕄 := Cp c jl wM (wch m c) a b

/-- What is sent of chunk `x`. -/
def eV (x : RJ) : C16 F := if x.1 = 2 then dgV m c x.2 else if x.1 = 1 then upV m c x.2 else dnV m c x.2
variable (F) in
def eO (x : RJ) : sProp 𝕄 := any F c (t16M (rot c x.1.val) x.2)
variable (F) in
abbrev Ep (a : ℕ) : sProp 𝕄 := Pool el (eO F c) (eO F c) a 0

variable (F) in
def oO (x : RJ) : sProp 𝕄 := any F c (outM (rot c x.1.val) x.2)
def oD (x : RJ) : sProp 𝕄 := owns (c : Thread nD τ) (outM (rot c x.1.val) x.2) fullShare (outV m c (rot c x.1.val) x.2)
abbrev Op (a b : ℕ) : sProp 𝕄 := Pool ol (oO F c) (oD c m) a b

theorem eV_dg (j : Fin 4) : eV c m (2, j) = dgV m c j := if_pos rfl
theorem eV_up (j : Fin 4) : eV c m (1, j) = upV m c j := (if_neg (show ¬((1 : Fin 4) = 2) by decide)).trans (if_pos rfl)
theorem eV_dn (j : Fin 4) : eV c m (3, j) = dnV m c j :=
  (if_neg (show ¬((3 : Fin 4) = 2) by decide)).trans (if_neg (show ¬((3 : Fin 4) = 1) by decide))
theorem up_lo {j : Fin 4} (h : j.val < 2) : upV m c j = addP (dgV m (rot c 3) j) (tch m c (rot c 1) j) := if_pos h
theorem up_hi {j : Fin 4} (h : ¬j.val < 2) : upV m c j = castP (tch m c (rot c 1) j) := if_neg h
theorem dn_lo {j : Fin 4} (h : j.val < 2) : dnV m c j = castP (tch m c (rot c 3) j) := if_pos h
theorem dn_hi {j : Fin 4} (h : ¬j.val < 2) : dnV m c j = addP (dgV m (rot c 1) j) (tch m c (rot c 3) j) := if_neg h

theorem rsV0 (p : Dev nD) (j : Fin 4) : rsV m p 0 j = upV m (rot p 3) j := if_pos rfl
theorem rsV1 (p : Dev nD) (j : Fin 4) : rsV m p 1 j = dnV m (rot p 1) j := (if_neg (show ¬((1 : Fin 4) = 0) by decide)).trans (if_pos rfl)
theorem rsV2 (p : Dev nD) (j : Fin 4) : rsV m p 2 j = dgV m (rot p 3) j :=
  (if_neg (show ¬((2 : Fin 4) = 0) by decide)).trans ((if_neg (show ¬((2 : Fin 4) = 1) by decide)).trans (if_pos rfl))
theorem rsV3 (p : Dev nD) (j : Fin 4) : rsV m p 3 j = dgV m (rot p 1) j :=
  (if_neg (show ¬((3 : Fin 4) = 0) by decide)).trans ((if_neg (show ¬((3 : Fin 4) = 1) by decide)).trans (if_neg (show ¬((3 : Fin 4) = 2) by decide)))
theorem spotV_rs (p : Dev nD) (s j : Fin 4) : spotV m p (0, s, j) = rsV m p s j := if_pos rfl
theorem spotV_ag (p : Dev nD) (o j : Fin 4) : spotV m p (1, o, j) = yV m o j := if_neg (show ¬((1 : Fin 2) = 0) by decide)

/-- The chunks that are sent as they are, narrowed. -/
theorem eV_cast {x : RJ} (h : x ∈ tl.take 8) : castP (tV c m x) = eV c m x := by
  simp only [tl, List.take_succ_cons, List.take_zero, List.mem_cons, List.not_mem_nil, or_false] at h
  rcases h with rfl | rfl | rfl | rfl | rfl | rfl | rfl | rfl
  · exact (eV_dg c m 0).symm
  · exact (eV_dg c m 1).symm
  · exact (eV_dg c m 2).symm
  · exact (eV_dg c m 3).symm
  · exact ((eV_dn c m 0).trans (dn_lo c m (by decide))).symm
  · exact ((eV_dn c m 1).trans (dn_lo c m (by decide))).symm
  · exact ((eV_up c m 2).trans (up_hi c m (by decide))).symm
  · exact ((eV_up c m 3).trans (up_hi c m (by decide))).symm

/-! ## Loads of an argument's chunks into a slot -/

/-- The chunk `v` of contents `X` on its way into slot `i`, on the copy semaphore `n`. -/
def FX (n : ℕ) (i : Fin 2) (v : MemH .f32) (X : C32 F) : sProp 𝕄 :=
  Fl c (dsem n) (cinM i) iprop(owns (c : Thread nD τ) (cinM i) fullShare X ∗ owns (c : Thread nD τ) v fullShare X)
abbrev FT (n : ℕ) (i : Fin 2) (x : RJ) : sProp 𝕄 := FX c n i (tM (rot c x.1.val) x.2) (tV c m x)
abbrev FW (n : ℕ) (i : Fin 2) (j : Fin 4) : sProp 𝕄 := FX c n i (wM j) (wch m c j)

theorem ldx {I : Type} (l : List I) (M : I → MemH .f32) (V : I → C32 F) {a b : ℕ} (n : ℕ) (i : Fin 2) {x : I} (hx : l[a]? = some x)
    {src' : MemH .f32} {dst' : MemV .f32} {s' : DmaSem sig} (hs : src' = M x) (hd : dst' = cinM i) (hq : s' = dsem n)
    {hsrc : src'.view.WordExact} {hdst : dst'.view.WordExact} {hsem : DmaTarget.Typed (nD := nD) (τ := τ) (p := .tc) .hbm (.dma s') (.here dst')}
    {Q : α → sProp 𝕄} {k : PUnit → PT F α} :
    iprop(Cp c l M V a b ∗ any F c (cinM i) ∗ sv F c (dsem n))
      ⊢ iprop((iprop(FX c n i (M x) (V x) ∗ Cp c l M V (a + 1) b) -∗ wpp c (k ⟨⟩) Q)
        -∗ wpp c (.op (.enqueueDma src' (.here dst') (.dma s') hsrc hdst hsem) k) Q) := by
  refine (sep_mono_left (show Cp c l M V a b ⊢ _ from pool_take hx)).trans ?_
  unfold FX Cp
  iintro ⟨⟨Ht, HT⟩, Hd, Hv⟩ Hk
  iapply (copy_step c (M x) (cinM i) (dsem n) hs hd hq) $$ [Ht Hd Hv]
  · isplitl [Ht]; · iexact Ht
    isplitl [Hd]; · iexact Hd
    iexact Hv
  iintro HF
  iapply Hk
  isplitl [HF]; · iexact HF
  iexact HT

theorem wlx {I : Type} (l : List I) (M : I → MemH .f32) (V : I → C32 F) {a b k' r w : ℕ} (n : ℕ) (i : Fin 2) {x : I} (hx : l[b]? = some x)
    {sp : Space} {sh : Shape} {e : EltTy} {src' : Memref sig .tc sp sh e} {dst' : MemV .f32} {s' : DmaSem sig} (hd : dst' = cinM i) (hq : s' = dsem n)
    {hsrc : src'.view.WordExact} {hdst : dst'.view.WordExact} {Q : α → sProp 𝕄} {k : PUnit → PT F α} :
    iprop(FX c n i (M x) (V x) ∗ Cp c l M V a b ∗ St m c k' r w)
      ⊢ iprop((iprop(owns (c : Thread nD τ) (cinM i) fullShare (V x) ∗ sv F c (dsem n) ∗ Cp c l M V a (b + 1) ∗ St m c k' r w) -∗ wpp c (k ⟨⟩) Q)
        -∗ wpp c (.op (.waitDma2 s' src' dst' hsrc hdst) k) Q) := by
  unfold FX
  iintro ⟨HF, HT, HS⟩ Hk
  iapply (wait_step c m (dsem n) (cinM i) hq hd) $$ [HF HS]
  · isplitl [HF]; · iexact HF
    iexact HS
  iintro ⟨⟨Hc, Ht⟩, Hv, HS⟩
  iapply Hk
  isplitl [Hc]; · iexact Hc
  isplitl [Hv]; · iexact Hv
  isplitl [Ht HT]
  · unfold Cp
    iapply (pool_put (l := l) (P := fun x => owns (c : Thread nD τ) (M x) fullShare (V x)) (P' := fun x => owns (c : Thread nD τ) (M x) fullShare (V x)) (a := a) hx)
    isplitl [Ht]; · iexact Ht
    iexact HT
  iexact HS

theorem load_cin (i : Fin 2) {hl : (A6).view.LoadsAt (r2 i).toLoadRect} {Q : α → sProp 𝕄} {k : ((r2 i).shape.Idx → Elt F .f32) → PT F α} {X : C32 F} :
    owns (c : Thread nD τ) (cinM i) fullShare X
      ⊢ iprop((owns (c : Thread nD τ) (cinM i) fullShare X -∗ wpp c (k (usq X)) Q) -∗ wpp c (.op (.load A6 (r2 i).toLoadRect hl) k) Q) :=
  load_slot c A6 i
theorem load_sum (i : Fin 2) {hl : (A10).view.LoadsAt (r2 i).toLoadRect} {Q : α → sProp 𝕄} {k : ((r2 i).shape.Idx → Elt F .bf16) → PT F α} {X : C16 F} :
    owns (c : Thread nD τ) (sumM i) fullShare X
      ⊢ iprop((owns (c : Thread nD τ) (sumM i) fullShare X -∗ wpp c (k (usq X)) Q) -∗ wpp c (.op (.load A10 (r2 i).toLoadRect hl) k) Q) :=
  load_slot c A10 i
theorem load_agin (i : Fin 2) {hl : (A12).view.LoadsAt (r2 i).toLoadRect} {Q : α → sProp 𝕄} {k : ((r2 i).shape.Idx → Elt F .bf16) → PT F α} {X : C16 F} :
    owns (c : Thread nD τ) (aginM i) fullShare X
      ⊢ iprop((owns (c : Thread nD τ) (aginM i) fullShare X -∗ wpp c (k (usq X)) Q) -∗ wpp c (.op (.load A12 (r2 i).toLoadRect hl) k) Q) :=
  load_slot c A12 i

/-! ## Narrowing a chunk into the staging array, and sending it -/

/-- The narrowed chunk `x` on its way from slot `i` to its place in the staging array. -/
def FE (i : Fin 2) (x : RJ) : sProp 𝕄 :=
  Fl c (dsem (66 + i.val)) (t16M (rot c x.1.val) x.2)
    iprop(owns (c : Thread nD τ) (t16M (rot c x.1.val) x.2) fullShare (eV c m x) ∗ owns (c : Thread nD τ) (coutM i) fullShare (eV c m x))

/-- A store of the narrowed chunk in slot `i` and the copy of the slot into the staging array. -/
theorem put_e {a : ℕ} (i : Fin 2) {x : RJ} (hx : el[a]? = some x) {w : (r2 i).shape.Idx → Elt F .bf16} (hw : sq w = eV c m x)
    {src' : MemV .bf16} {dst' : MemH .bf16} {s' : DmaSem sig} (hs : src' = coutM i) (hd : dst' = t16M (rot c x.1.val) x.2) (hq : s' = dsem (66 + i.val))
    {hsrc : src'.view.WordExact} {hdst : dst'.view.WordExact} {hsem : DmaTarget.Typed (nD := nD) (τ := τ) (p := .tc) .vmem (.dma s') (.here dst')}
    {hl : (A7).view.LoadsAt (r2 i).toLoadRect} {hx' : ((A7).access (r2 i)).Stores Finset.univ} {hm : Finset.univ = Finset.univ ∨ ∀ a, (r2 i).stride a = 1}
    {Q : α → sProp 𝕄} {k : PUnit → PT F α} :
    iprop(any F c (coutM i) ∗ sv F c (dsem (66 + i.val)) ∗ Ep F c a)
      ⊢ iprop((iprop(FE c m i x ∗ Ep F c (a + 1)) -∗ wpp c (k ⟨⟩) Q)
        -∗ wpp c (.op (.load A7 (r2 i).toLoadRect hl) fun _ => .op (.store A7 (r2 i) w Finset.univ hx' hm) fun _ =>
          .op (.enqueueDma src' (.here dst') (.dma s') hsrc hdst hsem) k) Q) := by
  refine (sep_mono_right (sep_mono_right (pool_take hx))).trans ?_
  unfold eO FE
  iintro ⟨Hd, Hv, He, HE⟩ Hk
  iapply (store_slot c A7 i (hl := hl) (hx := hx') (hm := hm)) $$ [Hd]
  · iexact Hd
  rw [hw]
  iintro Hd
  iapply (copy_step c (coutM i) (t16M (rot c x.1.val) x.2) (dsem (66 + i.val)) (X := eV c m x) hs hd hq) $$ [Hd He Hv]
  · isplitl [Hd]; · iexact Hd
    isplitl [He]; · iexact He
    iexact Hv
  iintro HF
  iapply Hk
  isplitl [HF]; · iexact HF
  iexact HE

theorem rs_up (j : Fin 4) : eV c m (1, j) = spotV m (rot c 1) (0, 0, j) := by
  rw [spotV_rs, rsV0, rot_rot, rot_four, eV_up]
theorem rs_dn (j : Fin 4) : eV c m (3, j) = spotV m (rot c 3) (0, 1, j) := by
  rw [spotV_rs, rsV1, rot_rot, rot_four, eV_dn]
theorem rs_dg1 (j : Fin 4) : eV c m (2, j) = spotV m (rot c 1) (0, 2, j) := by
  rw [spotV_rs, rsV2, rot_rot, rot_four, eV_dg]
theorem rs_dg3 (j : Fin 4) : eV c m (2, j) = spotV m (rot c 3) (0, 3, j) := by
  rw [spotV_rs, rsV3, rot_rot, rot_four, eV_dg]

/-- The values sent in the scatter are those the protocol says land. -/
theorem ship_val {x : RJ} {y : Code} (h : (x, y) ∈ el.zip sends) : eV c m x = spotV m (rot c (toOff y)) (spotTo c y) := by
  simp only [el, sends, List.zip_cons_cons, List.zip_nil_left, List.mem_cons, List.not_mem_nil, or_false, Prod.mk.injEq] at h
  rcases h with ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩
  · exact rs_dg1 c m 0
  · exact rs_dg1 c m 1
  · exact rs_dg3 c m 2
  · exact rs_dg3 c m 3
  · exact rs_dn c m 0
  · exact rs_dn c m 1
  · exact rs_up c m 2
  · exact rs_up c m 3
  · exact rs_up c m 0
  · exact rs_up c m 1
  · exact rs_dn c m 2
  · exact rs_dn c m 3

theorem ship_pay {y : Code} (h : y ∈ sends.take 12) (P : sProp 𝕄) : P ⊢ dmaPay m c (sendN y) := by
  have h3 : ¬(sendN y < 32) ∧ ¬(sendN y / 4 = 13) ∧ ¬(sendN y / 4 = 14) := by revert y; decide
  unfold dmaPay
  rw [if_neg h3.1, if_neg h3.2.1, if_neg h3.2.2]
  exact (show P ⊢ iprop(emp) by iintro -; iempintro)

/-- Chunk `x` in its place in the staging array. -/
def TE (x : RJ) : sProp 𝕄 := owns (c : Thread nD τ) (t16M (rot c x.1.val) x.2) fullShare (eV c m x)

/-- The wait for the staging copy of slot `i`. -/
theorem shipW {n r w : ℕ} (i : Fin 2) {x : RJ}
    {sp : Space} {sh : Shape} {e : EltTy} {srcw : Memref sig .tc sp sh e} {dstw : MemH .bf16} {sw : DmaSem sig}
    (hdw : dstw = t16M (rot c x.1.val) x.2) (hqw : sw = dsem (66 + i.val)) {hsw : srcw.view.WordExact} {hdw' : dstw.view.WordExact}
    {Q : α → sProp 𝕄} {k : PUnit → PT F α} :
    FE c m i x ⊢ iprop(St m c n r w -∗ (iprop(TE c m x ∗ any F c (coutM i) ∗ sv F c (dsem (66 + i.val)) ∗ St m c n r w) -∗ wpp c (k ⟨⟩) Q)
        -∗ wpp c (.op (.waitDma2 sw srcw dstw hsw hdw') k) Q) := by
  unfold FE TE
  iintro HF HS Hk
  iapply (cur2 (wait_step c m (dsem (66 + i.val)) (t16M (rot c x.1.val) x.2) hqw hdw)) $$ HF HS
  iintro ⟨⟨He, Hc⟩, Hv, HS⟩
  iapply Hk
  isplitl [He]; · iexact He
  isplitl [Hc]; · iapply (any_of c); iexact Hc
  isplitl [Hv]; · iexact Hv
  iexact HS

/-- The transfer of a chunk. -/
theorem shipS {n r : ℕ} {x : RJ} {y : Code} (hy : codes[n]? = some y) (hn : 3 ≤ n) (hr : 1 ≤ r) (hv : (x, y) ∈ el.zip sends)
    {src' dst' : MemH .bf16} {d' : Dev nD} {sS sR : DmaSem sig} (hs : src' = t16M (rot c x.1.val) x.2) (hd : dst' = spotM (spotTo c y))
    (hp : d' = rot c (toOff y)) (hS : sS = dsem (sendN y)) (hR : sR = dsem (spotN (spotTo c y)))
    {hsc : dst'.view.ref.isScScratch = false} {hsrc : src'.view.WordExact} {hdst : dst'.view.WordExact}
    {hsem : DmaTarget.Typed (nD := nD) (τ := τ) (p := .tc) .hbm (.dma sR) (.remote (d' : Thread nD τ) dst' (.dma sS) hsc)}
    {Q : α → sProp 𝕄} {k : PUnit → PT F α} :
    TE c m x ⊢ iprop(St m c n r 0 -∗ (St m c (n + 1) r 0 -∗ wpp c (k ⟨⟩) Q)
        -∗ wpp c (.op (.enqueueDma src' (.remote (d' : Thread nD τ) dst' (.dma sS) hsc) (.dma sR) hsrc hdst hsem) k) Q) := by
  have hy12 : y ∈ sends.take 12 := by
    have h2 : (x, y) ∈ el.zip (sends.take 12) := hv
    exact (List.of_mem_zip h2).2
  exact cur2 (send_step c m hy hn hr (t16M (rot c x.1.val) x.2) (q := fullShare) (X := eV c m x) (ship_val c m hv) (ship_pay c m hy12 _) hs hd hp hS hR)

/-- Both together. -/
theorem ship {n r : ℕ} (i : Fin 2) {x : RJ} {y : Code} (hy : codes[n]? = some y) (hn : 3 ≤ n) (hr : 1 ≤ r) (hv : (x, y) ∈ el.zip sends)
    {sp : Space} {sh : Shape} {e : EltTy} {srcw : Memref sig .tc sp sh e} {dstw : MemH .bf16} {sw : DmaSem sig}
    (hdw : dstw = t16M (rot c x.1.val) x.2) (hqw : sw = dsem (66 + i.val)) {hsw : srcw.view.WordExact} {hdw' : dstw.view.WordExact}
    {src' dst' : MemH .bf16} {d' : Dev nD} {sS sR : DmaSem sig} (hs : src' = t16M (rot c x.1.val) x.2) (hd : dst' = spotM (spotTo c y))
    (hp : d' = rot c (toOff y)) (hS : sS = dsem (sendN y)) (hR : sR = dsem (spotN (spotTo c y)))
    {hsc : dst'.view.ref.isScScratch = false} {hsrc : src'.view.WordExact} {hdst : dst'.view.WordExact}
    {hsem : DmaTarget.Typed (nD := nD) (τ := τ) (p := .tc) .hbm (.dma sR) (.remote (d' : Thread nD τ) dst' (.dma sS) hsc)}
    {Q : α → sProp 𝕄} {k : PUnit → PT F α} :
    FE c m i x ⊢ iprop(St m c n r 0 -∗ (iprop(any F c (coutM i) ∗ sv F c (dsem (66 + i.val)) ∗ St m c (n + 1) r 0) -∗ wpp c (k ⟨⟩) Q)
        -∗ wpp c (.op (.waitDma2 sw srcw dstw hsw hdw') fun _ =>
          .op (.enqueueDma src' (.remote (d' : Thread nD τ) dst' (.dma sS) hsc) (.dma sR) hsrc hdst hsem) k) Q) := by
  iintro HF HS Hk
  iapply (shipW c m i hdw hqw) $$ HF HS
  iintro ⟨He, Hc, Hv, HS⟩
  iapply (shipS c m hy hn hr hv hs hd hp hS hR) $$ He HS
  iintro HS
  iapply Hk
  isplitl [Hc]; · iexact Hc
  isplitl [Hv]; · iexact Hv
  iexact HS

/-! ## Items -/

/-- A chunk in slot `i` narrowed into the staging array. -/
theorem cv {a : ℕ} (i : Fin 2) {x : RJ} (hc : castP (tV c m x) = eV c m x) (he : el[a]? = some x)
    {pay : ((r2 i).shape.Idx → Elt F .f32) → ((r2 i).shape.Idx → Elt F .bf16)} (hpay : ∀ X, sq (pay (usq X)) = castP X)
    {src' : MemV .bf16} {dst' : MemH .bf16} {s' : DmaSem sig} (hs : src' = coutM i) (hd : dst' = t16M (rot c x.1.val) x.2) (hq : s' = dsem (66 + i.val))
    {hsrc : src'.view.WordExact} {hdst : dst'.view.WordExact} {hsem : DmaTarget.Typed (nD := nD) (τ := τ) (p := .tc) .vmem (.dma s') (.here dst')}
    {hl0 : (A6).view.LoadsAt (r2 i).toLoadRect}
    {hl : (A7).view.LoadsAt (r2 i).toLoadRect} {hx' : ((A7).access (r2 i)).Stores Finset.univ} {hm : Finset.univ = Finset.univ ∨ ∀ a, (r2 i).stride a = 1}
    {Q : α → sProp 𝕄} {k : PUnit → PT F α} :
    iprop(owns (c : Thread nD τ) (cinM i) fullShare (tV c m x) ∗ any F c (coutM i) ∗ sv F c (dsem (66 + i.val)) ∗ Ep F c a)
      ⊢ iprop((iprop(any F c (cinM i) ∗ FE c m i x ∗ Ep F c (a + 1)) -∗ wpp c (k ⟨⟩) Q)
        -∗ wpp c (.op (.load A6 (r2 i).toLoadRect hl0) fun v => .op (.load A7 (r2 i).toLoadRect hl) fun _ =>
          .op (.store A7 (r2 i) (pay v) Finset.univ hx' hm) fun _ => .op (.enqueueDma src' (.here dst') (.dma s') hsrc hdst hsem) k) Q) := by
  iintro ⟨Hc, Ho, Hw, HE⟩ Hk
  iapply (load_cin c i) $$ Hc
  iintro Hc
  iapply (put_e c m i he (w := pay (usq (tV c m x))) ((hpay _).trans hc) hs hd hq) $$ [Ho Hw HE]
  · isplitl [Ho]; · iexact Ho
    isplitl [Hw]; · iexact Hw
    iexact HE
  iintro ⟨HF, HE⟩
  iapply Hk
  isplitl [Hc]; · iapply (any_of c); iexact Hc
  isplitl [HF]; · iexact HF
  iexact HE

/-- An array of four blocks of rows, of which the first `a` are written. -/
def Rp (A : Memref sig .tc .vmem S2048x2048 .bf16) (V : Fin 4 → C16 F) (a : ℕ) : sProp 𝕄 :=
  Pool jl (fun j => any F c (rowsM A j)) (fun j => owns (c : Thread nD τ) (rowsM A j) fullShare (V j)) a a

/-- A chunk in slot `i` narrowed into rows `j` of a two-dimensional array. -/
theorem rowst (A : Memref sig .tc .vmem S2048x2048 .bf16) (V : Fin 4 → C16 F) (i : Fin 2) {a : ℕ} {j : Fin 4} (hj : jl[a]? = some j) {X : C32 F} (hV : castP X = V j)
    {pay : ((r2 i).shape.Idx → Elt F .f32) → ((r1 j).shape.Idx → Elt F .bf16)} (hpay : ∀ X, pay (usq X) = castP X)
    {hl0 : (A6).view.LoadsAt (r2 i).toLoadRect}
    {hl : A.view.LoadsAt (r1 j).toLoadRect} {hx' : (A.access (r1 j)).Stores Finset.univ} {hm : Finset.univ = Finset.univ ∨ ∀ a, (r1 j).stride a = 1}
    {Q : α → sProp 𝕄} {k : PUnit → PT F α} :
    iprop(owns (c : Thread nD τ) (cinM i) fullShare X ∗ Rp c A V a)
      ⊢ iprop((iprop(any F c (cinM i) ∗ Rp c A V (a + 1)) -∗ wpp c (k ⟨⟩) Q)
        -∗ wpp c (.op (.load A6 (r2 i).toLoadRect hl0) fun v => .op (.load A (r1 j).toLoadRect hl) fun _ =>
          .op (.store A (r1 j) (pay v) Finset.univ hx' hm) k) Q) := by
  refine (sep_mono_right (show Rp c A V a ⊢ _ from pool_take hj)).trans ?_
  have hput := pool_put (l := jl) (P := fun j => any F c (rowsM A j)) (P' := fun j => owns (c : Thread nD τ) (rowsM A j) fullShare (V j)) (a := a + 1) hj
  unfold Rp
  iintro ⟨Hc, Ho, HP⟩ Hk
  iapply (load_cin c i) $$ Hc
  iintro Hc
  iapply (store_rows c A j (hl := hl) (hx := hx') (hm := hm)) $$ [Ho]
  · iexact Ho
  rw [hpay, hV]
  iintro Ho
  iapply Hk
  isplitl [Hc]; · iapply (any_of c); iexact Hc
  iapply hput
  isplitl [Ho]; · iexact Ho
  iexact HP

abbrev Own (a : ℕ) : sProp 𝕄 := Rp c A8 (fun j => castP (tV c m (0, j))) a
abbrev W16 (a : ℕ) : sProp 𝕄 := Rp c A9 (fun j => castP (wch m c j)) a

end Cert.RingProof
-- ==== Proof.Items.lean ====
module

public import proofs.«01_k».proof.Proof.Blocks

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

/-! ## Shorthands for the two arguments -/

theorem ldt {a b : ℕ} (n : ℕ) (i : Fin 2) {x : RJ} (hx : tl[a]? = some x)
    {src' : MemH .f32} {dst' : MemV .f32} {s' : DmaSem sig} (hs : src' = tM (rot c x.1.val) x.2) (hd : dst' = cinM i) (hq : s' = dsem n)
    {hsrc : src'.view.WordExact} {hdst : dst'.view.WordExact} {hsem : DmaTarget.Typed (nD := nD) (τ := τ) (p := .tc) .hbm (.dma s') (.here dst')}
    {Q : α → sProp 𝕄} {k : PUnit → PT F α} :
    Tp c m a b ⊢ iprop(any F c (cinM i) -∗ sv F c (dsem n) -∗ (iprop(FT c m n i x ∗ Tp c m (a + 1) b) -∗ wpp c (k ⟨⟩) Q)
        -∗ wpp c (.op (.enqueueDma src' (.here dst') (.dma s') hsrc hdst hsem) k) Q) :=
  cur3 (ldx c tl (fun x => tM (rot c x.1.val) x.2) (tV c m) n i hx hs hd hq)

theorem wlt {a b k' r w : ℕ} (n : ℕ) (i : Fin 2) {x : RJ} (hx : tl[b]? = some x)
    {sp : Space} {sh : Shape} {e : EltTy} {src' : Memref sig .tc sp sh e} {dst' : MemV .f32} {s' : DmaSem sig} (hd : dst' = cinM i) (hq : s' = dsem n)
    {hsrc : src'.view.WordExact} {hdst : dst'.view.WordExact} {Q : α → sProp 𝕄} {k : PUnit → PT F α} :
    FT c m n i x ⊢ iprop(Tp c m a b -∗ St m c k' r w
        -∗ (iprop(owns (c : Thread nD τ) (cinM i) fullShare (tV c m x) ∗ sv F c (dsem n) ∗ Tp c m a (b + 1) ∗ St m c k' r w) -∗ wpp c (k ⟨⟩) Q)
        -∗ wpp c (.op (.waitDma2 s' src' dst' hsrc hdst) k) Q) :=
  cur3 (wlx c m tl (fun x => tM (rot c x.1.val) x.2) (tV c m) n i hx hd hq)

theorem ldw {a b : ℕ} (n : ℕ) (i : Fin 2) {x : Fin 4} (hx : jl[a]? = some x)
    {src' : MemH .f32} {dst' : MemV .f32} {s' : DmaSem sig} (hs : src' = wM x) (hd : dst' = cinM i) (hq : s' = dsem n)
    {hsrc : src'.view.WordExact} {hdst : dst'.view.WordExact} {hsem : DmaTarget.Typed (nD := nD) (τ := τ) (p := .tc) .hbm (.dma s') (.here dst')}
    {Q : α → sProp 𝕄} {k : PUnit → PT F α} :
    Wp c m a b ⊢ iprop(any F c (cinM i) -∗ sv F c (dsem n) -∗ (iprop(FW c m n i x ∗ Wp c m (a + 1) b) -∗ wpp c (k ⟨⟩) Q)
        -∗ wpp c (.op (.enqueueDma src' (.here dst') (.dma s') hsrc hdst hsem) k) Q) :=
  cur3 (ldx c jl wM (wch m c) n i hx hs hd hq)

theorem wlw {a b k' r w : ℕ} (n : ℕ) (i : Fin 2) {x : Fin 4} (hx : jl[b]? = some x)
    {sp : Space} {sh : Shape} {e : EltTy} {src' : Memref sig .tc sp sh e} {dst' : MemV .f32} {s' : DmaSem sig} (hd : dst' = cinM i) (hq : s' = dsem n)
    {hsrc : src'.view.WordExact} {hdst : dst'.view.WordExact} {Q : α → sProp 𝕄} {k : PUnit → PT F α} :
    FW c m n i x ⊢ iprop(Wp c m a b -∗ St m c k' r w
        -∗ (iprop(owns (c : Thread nD τ) (cinM i) fullShare (wch m c x) ∗ sv F c (dsem n) ∗ Wp c m a (b + 1) ∗ St m c k' r w) -∗ wpp c (k ⟨⟩) Q)
        -∗ wpp c (.op (.waitDma2 s' src' dst' hsrc hdst) k) Q) :=
  cur3 (wlx c m jl wM (wch m c) n i hx hd hq)

/-! ## Halves -/

/-- Two halves, whatever is known of either, are the whole. -/
theorem halves_any {sp : Space} {sh : Shape} {e : EltTy} (v : Memref sig .tc sp sh e) :
    iprop((∃ Y, owns (c : Thread nD τ) v fullShare.left Y) ∗ (∃ Y, owns (c : Thread nD τ) v fullShare.right Y)) ⊢ any F c v := by
  unfold any owns
  iintro ⟨⟨%Y, %f, %hf, Hl⟩, ⟨%Z, %g, -, Hr⟩⟩
  iapply (show iprop((v.view.loc (c : Thread nD τ) ↦[v.view.set]{fullShare.left} f) ∗ (v.view.loc (c : Thread nD τ) ↦[v.view.set]{fullShare.right} g))
      ⊢ (iprop(∃ X, ∃ f, ⌜v.view.read (Elt F) f = X⌝ ∗ (v.view.loc (c : Thread nD τ) ↦[v.view.set]{fullShare} f)) : sProp 𝕄) from
    pure_elim _ pointsTo_agree fun hv => by
      rw [pointsTo_congr (f := g) (g := f) (fun i hi => ((hv i (Finset.mem_inter.mpr ⟨hi, hi⟩)).1).symm)]
      iintro H
      iexists Y; iexists f; isplitr; · ipureintro; exact hf
      iapply (pointsTo_share (PosShare.mem_left_op_right fullShare)).2; iexact H)
  isplitl [Hl]; · iexact Hl
  iexact Hr

/-! ## Chunks that arrive -/

theorem spotR_rs (s j : Fin 4) : spotR c (0, s, j) = (0, s, j) := by unfold spotR; exact if_pos rfl
theorem spotR_ag (o j : Fin 4) : spotR c (1, o, j) = (1, rot c o.val, j) := by unfold spotR; exact if_neg (show ¬((1 : Fin 3) = 0) by decide)
theorem spotM_rs (s j : Fin 4) : spotM (0, s, j) = rsM s j := if_pos rfl
theorem spotM_ag (o j : Fin 4) : spotM (1, o, j) = agM o j := if_neg (show ¬((1 : Fin 2) = 0) by decide)

/-- A chunk of the receive array on its way into slot `i` of the summing buffer. -/
def RF (i : Fin 2) (s j : Fin 4) : sProp 𝕄 :=
  Fl c (dsem (64 + i.val)) (sumM i) iprop(owns (c : Thread nD τ) (sumM i) fullShare (rsV m c s j) ∗ owns (c : Thread nD τ) (rsM s j) fullShare (rsV m c s j))

/-- The wait for a scattered chunk, and its load. -/
theorem rld {n r : ℕ} (i : Fin 2) {s j : Fin 4} (hx : recvs[r]? = some (0, s, j)) (hr : 1 ≤ r) (hl : ∀ y ∈ codes.drop n, lvlR (0, s, j) < lvl y) (hL : lvlR (0, s, j) < nL)
    {spw : Space} {shw : Shape} {ew : EltTy} {srcw : Memref sig .tc spw shw ew} {dstw : MemH .bf16} {sw : DmaSem sig} (hqw : sw = dsem (spotN (0, s, j)))
    {hsw : srcw.view.WordExact} {hdw : dstw.view.WordExact}
    {src' : MemH .bf16} {dst' : MemV .bf16} {s' : DmaSem sig} (hs : src' = rsM s j) (hd : dst' = sumM i) (hq : s' = dsem (64 + i.val))
    {hsrc : src'.view.WordExact} {hdst : dst'.view.WordExact} {hsem : DmaTarget.Typed (nD := nD) (τ := τ) (p := .tc) .hbm (.dma s') (.here dst')}
    {Q : α → sProp 𝕄} {k : PUnit → PT F α} :
    iprop(any F c (sumM i) ∗ sv F c (dsem (64 + i.val)) ∗ St m c n r 0)
      ⊢ iprop((iprop(RF c m i s j ∗ St m c n (r + 1) 0) -∗ wpp c (k ⟨⟩) Q)
        -∗ wpp c (.op (.waitDma2 sw srcw dstw hsw hdw) fun _ => .op (.enqueueDma src' (.here dst') (.dma s') hsrc hdst hsem) k) Q) := by
  have h := recv_step c m hx (show ¬((0 : Fin 3) = 2) by decide) hr hl hL (w := 0) (Q := Q) (s' := sw) (dst' := dstw) (src' := srcw) (hsrc := hsw) (hdst := hdw)
    (k := fun _ => .op (.enqueueDma src' (.here dst') (.dma s') hsrc hdst hsem) k) (by rw [spotR_rs]; exact hqw)
  rw [spotR_rs, spotM_rs, spotV_rs] at h
  unfold RF
  iintro ⟨Hd, Hv, HS⟩ Hk
  iapply h $$ HS
  iintro ⟨Hr, HS⟩
  iapply (cur3 (copy_step c (rsM s j) (sumM i) (dsem (64 + i.val)) (X := rsV m c s j) hs hd hq)) $$ Hr Hd Hv
  iintro HF
  iapply Hk
  isplitl [HF]; · iexact HF
  iexact HS

theorem wrf {n r w : ℕ} (i : Fin 2) {s j : Fin 4}
    {spw : Space} {shw : Shape} {ew : EltTy} {srcw : Memref sig .tc spw shw ew} {dst' : MemV .bf16} {s' : DmaSem sig} (hd : dst' = sumM i) (hq : s' = dsem (64 + i.val))
    {hsrc : srcw.view.WordExact} {hdst : dst'.view.WordExact} {Q : α → sProp 𝕄} {k : PUnit → PT F α} :
    iprop(RF c m i s j ∗ St m c n r w)
      ⊢ iprop((iprop(owns (c : Thread nD τ) (sumM i) fullShare (rsV m c s j) ∗ sv F c (dsem (64 + i.val)) ∗ St m c n r w) -∗ wpp c (k ⟨⟩) Q)
        -∗ wpp c (.op (.waitDma2 s' srcw dst' hsrc hdst) k) Q) := by
  unfold RF
  iintro ⟨HF, HS⟩ Hk
  iapply (cur2 (wait_step c m (dsem (64 + i.val)) (sumM i) hq hd)) $$ HF HS
  iintro ⟨⟨Hc, -⟩, Hv, HS⟩
  iapply Hk
  isplitl [Hc]; · iexact Hc
  isplitl [Hv]; · iexact Hv
  iexact HS

/-! ## A diagonal chunk added and passed on -/

/-- What is passed on is the chunk that came, added to this device's own. -/
theorem eV_add {x : RJ} {s : Fin 4} (h : (x, s) ∈ [(((1 : Fin 4), (0 : Fin 4)), (2 : Fin 4)), ((1, 1), 2), ((3, 2), 3), ((3, 3), 3)]) :
    addP (rsV m c s x.2) (tV c m x) = eV c m x := by
  simp only [List.mem_cons, List.not_mem_nil, or_false, Prod.mk.injEq] at h
  rcases h with ⟨⟨rfl, rfl⟩, rfl⟩ | ⟨⟨rfl, rfl⟩, rfl⟩ | ⟨⟨rfl, rfl⟩, rfl⟩ | ⟨⟨rfl, rfl⟩, rfl⟩
  · rw [eV_up, up_lo c m (by decide), rsV2]; rfl
  · rw [eV_up, up_lo c m (by decide), rsV2]; rfl
  · rw [eV_dn, dn_hi c m (by decide), rsV3]; rfl
  · rw [eV_dn, dn_hi c m (by decide), rsV3]; rfl

theorem stageOut {a : ℕ} (i : Fin 2) {x : RJ} {s : Fin 4} (hc : addP (rsV m c s x.2) (tV c m x) = eV c m x) (he : el[a]? = some x)
    {pay : ((r2 0).shape.Idx → Elt F .bf16) → ((r2 0).shape.Idx → Elt F .f32) → ((r2 i).shape.Idx → Elt F .bf16)}
    (hpay : ∀ Y X, sq (pay (usq Y) (usq X)) = addP Y X)
    {src' : MemV .bf16} {dst' : MemH .bf16} {s' : DmaSem sig} (hs : src' = coutM i) (hd : dst' = t16M (rot c x.1.val) x.2) (hq : s' = dsem (66 + i.val))
    {hsrc : src'.view.WordExact} {hdst : dst'.view.WordExact} {hsem : DmaTarget.Typed (nD := nD) (τ := τ) (p := .tc) .vmem (.dma s') (.here dst')}
    {hl1 : (A10).view.LoadsAt (r2 0).toLoadRect} {hl0 : (A6).view.LoadsAt (r2 0).toLoadRect}
    {hl : (A7).view.LoadsAt (r2 i).toLoadRect} {hx' : ((A7).access (r2 i)).Stores Finset.univ} {hm : Finset.univ = Finset.univ ∨ ∀ a, (r2 i).stride a = 1}
    {Q : α → sProp 𝕄} {k : PUnit → PT F α} :
    iprop(iprop(owns (c : Thread nD τ) (sumM 0) fullShare (rsV m c s x.2) ∗ owns (c : Thread nD τ) (cinM 0) fullShare (tV c m x)) ∗ any F c (coutM i)
        ∗ sv F c (dsem (66 + i.val)) ∗ Ep F c a)
      ⊢ iprop((iprop(any F c (sumM 0) ∗ any F c (cinM 0) ∗ FE c m i x ∗ Ep F c (a + 1)) -∗ wpp c (k ⟨⟩) Q)
        -∗ wpp c (.op (.load A10 (r2 0).toLoadRect hl1) fun u => .op (.load A6 (r2 0).toLoadRect hl0) fun v => .op (.load A7 (r2 i).toLoadRect hl) fun _ =>
          .op (.store A7 (r2 i) (pay u v) Finset.univ hx' hm) fun _ => .op (.enqueueDma src' (.here dst') (.dma s') hsrc hdst hsem) k) Q) := by
  iintro ⟨⟨Hr, Hc⟩, Ho, Hw, HE⟩ Hk
  iapply (load_sum c 0) $$ Hr
  iintro Hr
  iapply (load_cin c 0) $$ Hc
  iintro Hc
  iapply (cur3 (put_e c m i he (w := pay (usq (rsV m c s x.2)) (usq (tV c m x))) ((hpay _ _).trans hc) hs hd hq)) $$ Ho Hw HE
  iintro ⟨HF, HE⟩
  iapply Hk
  isplitl [Hr]; · iapply (any_of c); iexact Hr
  isplitl [Hc]; · iapply (any_of c); iexact Hc
  isplitl [HF]; · iexact HF
  iexact HE

/-! ## The product of a chunk by the weights -/

theorem load_w {W : S2048x2048.Idx → Elt F .bf16} {h : ∀ a, (![0, 0] : Fin 2 → ℕ) a + S2048x2048.size a ≤ S2048x2048.size a}
    {hl : (A9).view.LoadsAt (Rect.unit (s := S2048x2048) ![0, 0] S2048x2048.size h).toLoadRect}
    {Q : α → sProp 𝕄} {k : ((Rect.unit (s := S2048x2048) ![0, 0] S2048x2048.size h).shape.Idx → Elt F .bf16) → PT F α} :
    ((c : Thread nD τ).loc cc0_scratch3 ↦{fullShare} W : sProp 𝕄)
      ⊢ iprop((((c : Thread nD τ).loc cc0_scratch3 ↦{fullShare} W) -∗ wpp c (k W) Q)
        -∗ wpp c (.op (.load A9 (Rect.unit (s := S2048x2048) ![0, 0] S2048x2048.size h).toLoadRect hl) k) Q) := by
  have e1 : (A9.access (Rect.unit (s := S2048x2048) ![0, 0] S2048x2048.size h)).read (Elt F) W = W := by
    funext x
    show W ((Rect.unit (s := S2048x2048) ![0, 0] S2048x2048.size h).emb x) = W x
    congr 1
    refine funext fun a => Fin.ext ?_
    rw [Rect.emb_apply]
    fin_cases a <;> simp
  iintro H Hk
  iapply (wp_load_rect 𝒱₀ (c : Thread nD τ) none Set.univ (m := A9) (r := Rect.unit (s := S2048x2048) ![0, 0] S2048x2048.size h)
    (S := Finset.univ) (f := W) (Finset.subset_univ _)) $$ H
  iintro H
  rw [e1]
  iapply Hk
  iexact H

theorem load_own (j : Fin 4) {hl : (A8).view.LoadsAt (r1 j).toLoadRect} {Q : α → sProp 𝕄} {k : ((r1 j).shape.Idx → Elt F .bf16) → PT F α} {X : C16 F} :
    owns (c : Thread nD τ) (rowsM A8 j) fullShare X
      ⊢ iprop((owns (c : Thread nD τ) (rowsM A8 j) fullShare X -∗ wpp c (k X) Q) -∗ wpp c (.op (.load A8 (r1 j).toLoadRect hl) k) Q) :=
  load_rows c A8 j

/-- The narrowed own block, whole; chunk by chunk it is read and put back. -/
def OwnQ (a : ℕ) : sProp 𝕄 :=
  Pool jl (fun j => owns (c : Thread nD τ) (rowsM A8 j) fullShare (castP (tV c m (0, j)))) (fun j => owns (c : Thread nD τ) (rowsM A8 j) fullShare (castP (tV c m (0, j)))) a a
variable (F) in
/-- The result's staging rows, of which the first `a` are given to the transfers. -/
def Yp (a : ℕ) : sProp 𝕄 := Pool jl (fun j => any F c (rowsM A11 j)) (fun j => any F c (rowsM A11 j)) a 0

theorem own_done : Own c m 4 ⊢ OwnQ c m 0 := by
  unfold Own Rp OwnQ Pool
  exact sep_comm.1

theorem y_val (j : Fin 4) : castP (dotP (rsV m c 0 j) (rsV m c 1 j) (castP (tV c m (0, j))) (w16V m c)) = yV m c j := by
  unfold tV
  rw [show rot c ((0 : Fin 4), j).1.val = c from rot_zero c]
  rfl

theorem spotTo_up (j : Fin 4) : spotTo c (1, 1, j) = (1, c, j) := by
  unfold spotTo; rw [if_neg (show ¬((1 : Fin 3) = 0) by decide), if_neg (show ¬((1 : Fin 4) = 3) by decide)]
theorem spotTo_dn (j : Fin 4) : spotTo c (1, 2, j) = (1, c, j) := by
  unfold spotTo; rw [if_neg (show ¬((1 : Fin 3) = 0) by decide), if_neg (show ¬((2 : Fin 4) = 3) by decide)]

theorem pay_left (j : Fin 4) (Y : C16 F) : owns (c : Thread nD τ) (rowsM A11 j) fullShare.left Y ⊢ dmaPay m c (sendN (1, 1, j)) := by
  have h : ¬(sendN (1, 1, j) < 32) ∧ sendN (1, 1, j) / 4 = 13 ∧ (spotOf (sendN (1, 1, j))).2.2 = j := by revert j; decide
  unfold dmaPay
  rw [if_neg h.1, if_pos h.2.1, h.2.2]
  iintro H; iexists Y; iexact H
theorem pay_right (j : Fin 4) (Y : C16 F) : owns (c : Thread nD τ) (rowsM A11 j) fullShare.right Y ⊢ dmaPay m c (sendN (1, 2, j)) := by
  have h : ¬(sendN (1, 2, j) < 32) ∧ ¬(sendN (1, 2, j) / 4 = 13) ∧ sendN (1, 2, j) / 4 = 14 ∧ (spotOf (sendN (1, 2, j))).2.2 = j := by revert j; decide
  unfold dmaPay
  rw [if_neg h.1, if_neg h.2.1, if_pos h.2.2.1, h.2.2.2]
  iintro H; iexists Y; iexact H

/-- A chunk of the product, stored narrowed and sent both ways round. -/
theorem finMid {n r : ℕ} {j : Fin 4} {t : ℕ} (htj : j.val = t) (hj : jl[j.val]? = some j) (h1 : codes[n]? = some (1, 1, j)) (h2 : codes[n + 1]? = some (1, 2, j)) (hn : 3 ≤ n) (hr : 1 ≤ r)
    {h0 : ∀ a, (![0, 0] : Fin 2 → ℕ) a + S2048x2048.size a ≤ S2048x2048.size a}
    {pay : ((r2 0).shape.Idx → Elt F .bf16) → ((r2 1).shape.Idx → Elt F .bf16) → ((r1 j).shape.Idx → Elt F .bf16)
      → ((Rect.unit (s := S2048x2048) ![0, 0] S2048x2048.size h0).shape.Idx → Elt F .bf16) → ((r1 j).shape.Idx → Elt F .bf16)}
    (hpay : ∀ P Q O W, pay (usq P) (usq Q) O W = castP (dotP P Q O W))
    {l1 : (A10).view.LoadsAt (r2 0).toLoadRect} {l2 : (A10).view.LoadsAt (r2 1).toLoadRect} {l3 : (A8).view.LoadsAt (r1 j).toLoadRect}
    {l4 : (A9).view.LoadsAt (Rect.unit (s := S2048x2048) ![0, 0] S2048x2048.size h0).toLoadRect} {l5 : (A11).view.LoadsAt (r1 j).toLoadRect}
    {hx' : ((A11).access (r1 j)).Stores Finset.univ} {hm : Finset.univ = Finset.univ ∨ ∀ a, (r1 j).stride a = 1}
    {srcU : MemV .bf16} {dstU : MemH .bf16} {dU : Dev nD} {sSU sRU : DmaSem sig} (hsU : srcU = rowsM A11 j) (hdU : dstU = agM c j)
    (hpU : dU = rot c 1) (hSU : sSU = dsem (sendN (1, 1, j))) (hRU : sRU = dsem (spotN (1, c, j)))
    {hscU : dstU.view.ref.isScScratch = false} {hsrcU : srcU.view.WordExact} {hdstU : dstU.view.WordExact}
    {hsemU : DmaTarget.Typed (nD := nD) (τ := τ) (p := .tc) .vmem (.dma sRU) (.remote (dU : Thread nD τ) dstU (.dma sSU) hscU)}
    {srcD : MemV .bf16} {dstD : MemH .bf16} {dD : Dev nD} {sSD sRD : DmaSem sig} (hsD : srcD = rowsM A11 j) (hdD : dstD = agM c j)
    (hpD : dD = rot c 3) (hSD : sSD = dsem (sendN (1, 2, j))) (hRD : sRD = dsem (spotN (1, c, j)))
    {hscD : dstD.view.ref.isScScratch = false} {hsrcD : srcD.view.WordExact} {hdstD : dstD.view.WordExact}
    {hsemD : DmaTarget.Typed (nD := nD) (τ := τ) (p := .tc) .vmem (.dma sRD) (.remote (dD : Thread nD τ) dstD (.dma sSD) hscD)}
    {Q : α → sProp 𝕄} {k : ((r2 0).shape.Idx → Elt F .bf16) → ((r2 1).shape.Idx → Elt F .bf16) → ((r1 j).shape.Idx → Elt F .bf16)
      → ((Rect.unit (s := S2048x2048) ![0, 0] S2048x2048.size h0).shape.Idx → Elt F .bf16) → PT F α} :
    iprop(iprop(owns (c : Thread nD τ) (sumM 0) fullShare (rsV m c 0 j) ∗ owns (c : Thread nD τ) (sumM 1) fullShare (rsV m c 1 j))
        ∗ iprop(OwnQ c m t ∗ ((c : Thread nD τ).loc cc0_scratch3 ↦{fullShare} (w16V m c : S2048x2048.Idx → Elt F .bf16))) ∗ Yp F c t ∗ St m c n r 0)
      ⊢ iprop((iprop(any F c (sumM 0) ∗ any F c (sumM 1) ∗ iprop(OwnQ c m (t + 1) ∗ ((c : Thread nD τ).loc cc0_scratch3 ↦{fullShare} (w16V m c : S2048x2048.Idx → Elt F .bf16)))
            ∗ Yp F c (t + 1) ∗ St m c (n + 2) r 0) -∗ wpp c (k (usq (rsV m c 0 j)) (usq (rsV m c 1 j)) (castP (tV c m (0, j))) (w16V m c)) Q)
        -∗ wpp c (.op (.load A10 (r2 0).toLoadRect l1) fun v1 => .op (.load A10 (r2 1).toLoadRect l2) fun v2 => .op (.load A8 (r1 j).toLoadRect l3) fun v3 =>
          .op (.load A9 (Rect.unit (s := S2048x2048) ![0, 0] S2048x2048.size h0).toLoadRect l4) fun v4 => .op (.load A11 (r1 j).toLoadRect l5) fun _ =>
          .op (.store A11 (r1 j) (pay v1 v2 v3 v4) Finset.univ hx' hm) fun _ =>
          .op (.enqueueDma srcU (.remote (dU : Thread nD τ) dstU (.dma sSU) hscU) (.dma sRU) hsrcU hdstU hsemU) fun _ =>
          .op (.enqueueDma srcD (.remote (dD : Thread nD τ) dstD (.dma sSD) hscD) (.dma sRD) hsrcD hdstD hsemD) fun _ => k v1 v2 v3 v4) Q) := by
  subst htj
  have htake := pool_take (P := fun j => owns (c : Thread nD τ) (rowsM A8 j) fullShare (castP (tV c m (0, j))))
    (P' := fun j => owns (c : Thread nD τ) (rowsM A8 j) fullShare (castP (tV c m (0, j)))) (b := j.val) hj
  have hput := pool_put (P := fun j => owns (c : Thread nD τ) (rowsM A8 j) fullShare (castP (tV c m (0, j))))
    (P' := fun j => owns (c : Thread nD τ) (rowsM A8 j) fullShare (castP (tV c m (0, j)))) (a := j.val + 1) hj
  have hytake := pool_take (P := fun j => any F c (rowsM A11 j)) (P' := fun j => any F c (rowsM A11 j)) (b := 0) hj
  have eU : dstU = spotM (spotTo c (1, 1, j)) := by rw [spotTo_up, spotM_ag]; exact hdU
  have eD : dstD = spotM (spotTo c (1, 2, j)) := by rw [spotTo_dn, spotM_ag]; exact hdD
  have fU : sRU = dsem (spotN (spotTo c (1, 1, j))) := by rw [spotTo_up]; exact hRU
  have fD : sRD = dsem (spotN (spotTo c (1, 2, j))) := by rw [spotTo_dn]; exact hRD
  have vU : yV m c j = spotV m (rot c (toOff (1, 1, j))) (spotTo c (1, 1, j)) := by rw [spotTo_up, spotV_ag]
  have vD : yV m c j = spotV m (rot c (toOff (1, 2, j))) (spotTo c (1, 2, j)) := by rw [spotTo_dn, spotV_ag]
  unfold OwnQ Yp
  iintro ⟨⟨Hp, Hq⟩, ⟨HO, HW⟩, HY, HS⟩ Hk
  iapply (load_sum c 0) $$ Hp
  iintro Hp
  iapply (load_sum c 1) $$ Hq
  iintro Hq
  ihave HO2 := htake $$ HO
  icases HO2 with ⟨Ho, HO⟩
  iapply (load_own c j) $$ Ho
  iintro Ho
  iapply (load_w c) $$ HW
  iintro HW
  ihave HY2 := hytake $$ HY
  icases HY2 with ⟨Hy, HY⟩
  iapply (store_rows c A11 j (hl := l5) (hx := hx') (hm := hm)) $$ Hy
  rw [hpay, y_val]
  iintro Hy
  ihave Hy2 := (owns_halves (c : Thread nD τ) (rowsM A11 j) fullShare (yV m c j)).1 $$ Hy
  icases Hy2 with ⟨Hl, Hr⟩
  iapply (cur2 (send_step c m h1 hn hr (rowsM A11 j) vU (pay_left c m j _) hsU eU hpU hSU fU)) $$ Hl HS
  iintro HS
  iapply (cur2 (send_step c m h2 (by omega) hr (rowsM A11 j) vD (pay_right c m j _) hsD eD hpD hSD fD)) $$ Hr HS
  iintro HS
  iapply Hk
  isplitl [Hp]; · iapply (any_of c); iexact Hp
  isplitl [Hq]; · iapply (any_of c); iexact Hq
  isplitl [Ho HO HW]
  · isplitl [Ho HO]
    · iapply hput
      isplitl [Ho]; · iexact Ho
      iexact HO
    · iexact HW
  isplitl [HY]; · iexact HY
  iexact HS

/-! ## The result's chunks -/

/-- A finished chunk on its way from slot `i` to the result. -/
def FO (i : Fin 2) (x : RJ) : sProp 𝕄 :=
  Fl c (dsem (68 + i.val)) (outM (rot c x.1.val) x.2)
    iprop(owns (c : Thread nD τ) (outM (rot c x.1.val) x.2) fullShare (outV m c (rot c x.1.val) x.2) ∗ owns (c : Thread nD τ) (agoutM i) fullShare (outV m c (rot c x.1.val) x.2))

theorem put_o {a b : ℕ} (i : Fin 2) {x : RJ} (hx : ol[a]? = some x) {w : (r2 i).shape.Idx → Elt F .f32} (hw : sq w = outV m c (rot c x.1.val) x.2)
    {src' : MemV .f32} {dst' : MemH .f32} {s' : DmaSem sig} (hs : src' = agoutM i) (hd : dst' = outM (rot c x.1.val) x.2) (hq : s' = dsem (68 + i.val))
    {hsrc : src'.view.WordExact} {hdst : dst'.view.WordExact} {hsem : DmaTarget.Typed (nD := nD) (τ := τ) (p := .tc) .vmem (.dma s') (.here dst')}
    {hl : (A13).view.LoadsAt (r2 i).toLoadRect} {hx' : ((A13).access (r2 i)).Stores Finset.univ} {hm : Finset.univ = Finset.univ ∨ ∀ a, (r2 i).stride a = 1}
    {Q : α → sProp 𝕄} {k : PUnit → PT F α} :
    iprop(any F c (agoutM i) ∗ sv F c (dsem (68 + i.val)) ∗ Op c m a b)
      ⊢ iprop((iprop(FO c m i x ∗ Op c m (a + 1) b) -∗ wpp c (k ⟨⟩) Q)
        -∗ wpp c (.op (.load A13 (r2 i).toLoadRect hl) fun _ => .op (.store A13 (r2 i) w Finset.univ hx' hm) fun _ =>
          .op (.enqueueDma src' (.here dst') (.dma s') hsrc hdst hsem) k) Q) := by
  refine (sep_mono_right (sep_mono_right (pool_take hx))).trans ?_
  unfold oO FO
  iintro ⟨Hd, Hv, He, HE⟩ Hk
  iapply (store_slot c A13 i (hl := hl) (hx := hx') (hm := hm)) $$ [Hd]
  · iexact Hd
  rw [hw]
  iintro Hd
  iapply (copy_step c (agoutM i) (outM (rot c x.1.val) x.2) (dsem (68 + i.val)) (X := outV m c (rot c x.1.val) x.2) hs hd hq) $$ [Hd He Hv]
  · isplitl [Hd]; · iexact Hd
    isplitl [He]; · iexact He
    iexact Hv
  iintro HF
  iapply Hk
  isplitl [HF]; · iexact HF
  iexact HE

theorem wto {a b n r w : ℕ} (i : Fin 2) {x : RJ} (hx : ol[b]? = some x)
    {spw : Space} {shw : Shape} {ew : EltTy} {srcw : Memref sig .tc spw shw ew} {dst' : MemH .f32} {s' : DmaSem sig} (hd : dst' = outM (rot c x.1.val) x.2) (hq : s' = dsem (68 + i.val))
    {hsrc : srcw.view.WordExact} {hdst : dst'.view.WordExact} {Q : α → sProp 𝕄} {k : PUnit → PT F α} :
    iprop(FO c m i x ∗ Op c m a b ∗ St m c n r w)
      ⊢ iprop((iprop(any F c (agoutM i) ∗ sv F c (dsem (68 + i.val)) ∗ Op c m a (b + 1) ∗ St m c n r w) -∗ wpp c (k ⟨⟩) Q)
        -∗ wpp c (.op (.waitDma2 s' srcw dst' hsrc hdst) k) Q) := by
  have hput := pool_put (P := oO F c) (P' := oD c m) (a := a) hx
  unfold oD at hput
  unfold FO
  iintro ⟨HF, HO, HS⟩ Hk
  iapply (cur2 (wait_step c m (dsem (68 + i.val)) (outM (rot c x.1.val) x.2) hq hd)) $$ HF HS
  iintro ⟨⟨Ho, Hc⟩, Hv, HS⟩
  iapply Hk
  isplitl [Hc]; · iapply (any_of c); iexact Hc
  isplitl [Hv]; · iexact Hv
  isplitl [Ho HO]
  · iapply hput
    isplitl [Ho]; · iexact Ho
    iexact HO
  iexact HS

/-! ## Gathered chunks -/

/-- A gathered chunk on its way into slot `i`. -/
def GF (q : PosShare TreeShare) (i : Fin 2) (x : RJ) : sProp 𝕄 :=
  Fl c (dsem (70 + i.val)) (aginM i)
    iprop(owns (c : Thread nD τ) (aginM i) fullShare (yV m (rot c x.1.val) x.2) ∗ owns (c : Thread nD τ) (agM (rot c x.1.val) x.2) q (yV m (rot c x.1.val) x.2))

theorem recv_ag {n r w : ℕ} {o j : Fin 4} (hx : recvs[r]? = some (1, o, j)) (hr : 1 ≤ r) (hl : ∀ y ∈ codes.drop n, lvlR (1, o, j) < lvl y) (hL : lvlR (1, o, j) < nL)
    {spw : Space} {shw : Shape} {ew : EltTy} {srcw : Memref sig .tc spw shw ew} {dstw : MemH .bf16} {sw : DmaSem sig} (hqw : sw = dsem (spotN (1, rot c o.val, j)))
    {hsw : srcw.view.WordExact} {hdw : dstw.view.WordExact} {Q : α → sProp 𝕄} {k : PUnit → PT F α} :
    St m c n r w
      ⊢ iprop((iprop(owns (c : Thread nD τ) (agM (rot c o.val) j) fullShare (yV m (rot c o.val) j) ∗ St m c n (r + 1) w) -∗ wpp c (k ⟨⟩) Q)
        -∗ wpp c (.op (.waitDma2 sw srcw dstw hsw hdw) k) Q) := by
  have h := recv_step c m hx (show ¬((1 : Fin 3) = 2) by decide) hr hl hL (w := w) (Q := Q) (s' := sw) (dst' := dstw) (src' := srcw) (hsrc := hsw) (hdst := hdw)
    (k := k) (by rw [spotR_ag]; exact hqw)
  rw [spotR_ag, spotM_ag, spotV_ag] at h
  exact h

/-- A gathered chunk is awaited and loaded. -/
theorem gin {n r : ℕ} (i : Fin 2) {o j : Fin 4} (hx : recvs[r]? = some (1, o, j)) (hr : 1 ≤ r) (hl : ∀ y ∈ codes.drop n, lvlR (1, o, j) < lvl y) (hL : lvlR (1, o, j) < nL)
    {spw : Space} {shw : Shape} {ew : EltTy} {srcw : Memref sig .tc spw shw ew} {dstw : MemH .bf16} {sw : DmaSem sig} (hqw : sw = dsem (spotN (1, rot c o.val, j)))
    {hsw : srcw.view.WordExact} {hdw : dstw.view.WordExact}
    {src' : MemH .bf16} {dst' : MemV .bf16} {s' : DmaSem sig} (hs : src' = agM (rot c o.val) j) (hd : dst' = aginM i) (hq : s' = dsem (70 + i.val))
    {hsrc : src'.view.WordExact} {hdst : dst'.view.WordExact} {hsem : DmaTarget.Typed (nD := nD) (τ := τ) (p := .tc) .hbm (.dma s') (.here dst')}
    {Q : α → sProp 𝕄} {k : PUnit → PT F α} :
    iprop(any F c (aginM i) ∗ sv F c (dsem (70 + i.val)) ∗ St m c n r 0)
      ⊢ iprop((iprop(GF c m fullShare i (o, j) ∗ St m c n (r + 1) 0) -∗ wpp c (k ⟨⟩) Q)
        -∗ wpp c (.op (.waitDma2 sw srcw dstw hsw hdw) fun _ => .op (.enqueueDma src' (.here dst') (.dma s') hsrc hdst hsem) k) Q) := by
  unfold GF
  iintro ⟨Hd, Hv, HS⟩ Hk
  iapply (recv_ag c m hx hr hl hL hqw) $$ HS
  iintro ⟨Hr, HS⟩
  iapply (cur3 (copy_step c (agM (rot c o.val) j) (aginM i) (dsem (70 + i.val)) (X := yV m (rot c o.val) j) hs hd hq)) $$ Hr Hd Hv
  iintro HF
  iapply Hk
  isplitl [HF]; · iexact HF
  iexact HS

theorem pay_none (j : Fin 4) (P : sProp 𝕄) : P ⊢ dmaPay m c (sendN (1, 3, j)) := by
  have h3 : ¬(sendN (1, 3, j) < 32) ∧ ¬(sendN (1, 3, j) / 4 = 13) ∧ ¬(sendN (1, 3, j) / 4 = 14) := by revert j; decide
  unfold dmaPay
  rw [if_neg h3.1, if_neg h3.2.1, if_neg h3.2.2]
  exact (show P ⊢ iprop(emp) by iintro -; iempintro)

/-- A gathered chunk is awaited, passed on and loaded. -/
theorem ginRelay {n r : ℕ} (i : Fin 2) {o j : Fin 4} (hx : recvs[r]? = some (1, o, j)) (hr : 1 ≤ r) (hl : ∀ y ∈ codes.drop n, lvlR (1, o, j) < lvl y) (hL : lvlR (1, o, j) < nL)
    (hy : codes[n]? = some (1, 3, j)) (hn : 3 ≤ n) (ht : spotTo c (1, 3, j) = (1, rot c o.val, j))
    {spw : Space} {shw : Shape} {ew : EltTy} {srcw : Memref sig .tc spw shw ew} {dstw : MemH .bf16} {sw : DmaSem sig} (hqw : sw = dsem (spotN (1, rot c o.val, j)))
    {hsw : srcw.view.WordExact} {hdw : dstw.view.WordExact}
    {srcU : MemH .bf16} {dstU : MemH .bf16} {dU : Dev nD} {sSU sRU : DmaSem sig} (hsU : srcU = agM (rot c o.val) j) (hdU : dstU = agM (rot c o.val) j)
    (hpU : dU = rot c (toOff (1, 3, j))) (hSU : sSU = dsem (sendN (1, 3, j))) (hRU : sRU = dsem (spotN (1, rot c o.val, j)))
    {hscU : dstU.view.ref.isScScratch = false} {hsrcU : srcU.view.WordExact} {hdstU : dstU.view.WordExact}
    {hsemU : DmaTarget.Typed (nD := nD) (τ := τ) (p := .tc) .hbm (.dma sRU) (.remote (dU : Thread nD τ) dstU (.dma sSU) hscU)}
    {src' : MemH .bf16} {dst' : MemV .bf16} {s' : DmaSem sig} (hs : src' = agM (rot c o.val) j) (hd : dst' = aginM i) (hq : s' = dsem (70 + i.val))
    {hsrc : src'.view.WordExact} {hdst : dst'.view.WordExact} {hsem : DmaTarget.Typed (nD := nD) (τ := τ) (p := .tc) .hbm (.dma s') (.here dst')}
    {Q : α → sProp 𝕄} {k : PUnit → PT F α} :
    iprop(any F c (aginM i) ∗ sv F c (dsem (70 + i.val)) ∗ St m c n r 0)
      ⊢ iprop((iprop(GF c m fullShare.left i (o, j) ∗ St m c (n + 1) (r + 1) 0) -∗ wpp c (k ⟨⟩) Q)
        -∗ wpp c (.op (.waitDma2 sw srcw dstw hsw hdw) fun _ =>
          .op (.enqueueDma srcU (.remote (dU : Thread nD τ) dstU (.dma sSU) hscU) (.dma sRU) hsrcU hdstU hsemU) fun _ =>
          .op (.enqueueDma src' (.here dst') (.dma s') hsrc hdst hsem) k) Q) := by
  have eU : dstU = spotM (spotTo c (1, 3, j)) := by rw [ht, spotM_ag]; exact hdU
  have fU : sRU = dsem (spotN (spotTo c (1, 3, j))) := by rw [ht]; exact hRU
  have vU : yV m (rot c o.val) j = spotV m (rot c (toOff (1, 3, j))) (spotTo c (1, 3, j)) := by rw [ht, spotV_ag]
  unfold GF
  iintro ⟨Hd, Hv, HS⟩ Hk
  iapply (recv_ag c m hx hr hl hL hqw) $$ HS
  iintro ⟨Hr, HS⟩
  ihave Hr2 := (owns_halves (c : Thread nD τ) (agM (rot c o.val) j) fullShare (yV m (rot c o.val) j)).1 $$ Hr
  icases Hr2 with ⟨Hl, Hr⟩
  iapply (cur2 (send_step c m hy hn (by omega) (agM (rot c o.val) j) vU (pay_none c m j _) hsU eU hpU hSU fU)) $$ Hr HS
  iintro HS
  iapply (cur3 (copy_step c (agM (rot c o.val) j) (aginM i) (dsem (70 + i.val)) (X := yV m (rot c o.val) j) hs hd hq)) $$ Hl Hd Hv
  iintro HF
  iapply Hk
  isplitl [HF]; · iexact HF
  iexact HS

theorem out_ag {x : RJ} (h : x ∈ ol.drop 4) : extP (yV m (rot c x.1.val) x.2) = outV m c (rot c x.1.val) x.2 := by
  have h1 : ∀ x ∈ ol.drop 4, ∀ c : Dev nD, ¬(rot c x.1.val = c) := by decide
  exact (if_neg (h1 x h c)).symm

/-- A gathered chunk, once it and the slot it goes out by are there, is widened and copied to the result. -/
theorem gproc {a b n r : ℕ} (i : Fin 2) (q : PosShare TreeShare) {x z : RJ} (hx : ol[a]? = some x) (ha : x ∈ ol.drop 4) (hz : ol[b]? = some z)
    {spw : Space} {shw : Shape} {ew : EltTy} {srcw : Memref sig .tc spw shw ew} {dstw : MemV .bf16} {sw : DmaSem sig} (hdw : dstw = aginM i) (hqw : sw = dsem (70 + i.val))
    {hsw : srcw.view.WordExact} {hdw' : dstw.view.WordExact}
    {sp2 : Space} {sh2 : Shape} {e2 : EltTy} {src2 : Memref sig .tc sp2 sh2 e2} {dst2 : MemH .f32} {s2 : DmaSem sig} (hd2 : dst2 = outM (rot c z.1.val) z.2) (hq2 : s2 = dsem (68 + i.val))
    {hsrc2 : src2.view.WordExact} {hdst2 : dst2.view.WordExact}
    {pay : ((r2 i).shape.Idx → Elt F .bf16) → ((r2 i).shape.Idx → Elt F .f32)} (hpay : ∀ X, sq (pay (usq X)) = extP X)
    {src' : MemV .f32} {dst' : MemH .f32} {s' : DmaSem sig} (hs : src' = agoutM i) (hd : dst' = outM (rot c x.1.val) x.2) (hq : s' = dsem (68 + i.val))
    {hsrc : src'.view.WordExact} {hdst : dst'.view.WordExact} {hsem : DmaTarget.Typed (nD := nD) (τ := τ) (p := .tc) .vmem (.dma s') (.here dst')}
    {hl0 : (A12).view.LoadsAt (r2 i).toLoadRect}
    {hl : (A13).view.LoadsAt (r2 i).toLoadRect} {hx' : ((A13).access (r2 i)).Stores Finset.univ} {hm : Finset.univ = Finset.univ ∨ ∀ a, (r2 i).stride a = 1}
    {Q : α → sProp 𝕄} {k : PUnit → PT F α} :
    iprop(GF c m q i x ∗ FO c m i z ∗ Op c m a b ∗ St m c n r 0)
      ⊢ iprop((iprop(any F c (aginM i) ∗ sv F c (dsem (70 + i.val)) ∗ FO c m i x ∗ Op c m (a + 1) (b + 1) ∗ St m c n r 0) -∗ wpp c (k ⟨⟩) Q)
        -∗ wpp c (.op (.waitDma2 sw srcw dstw hsw hdw') fun _ => .op (.waitDma2 s2 src2 dst2 hsrc2 hdst2) fun _ =>
          .op (.load A12 (r2 i).toLoadRect hl0) fun v => .op (.load A13 (r2 i).toLoadRect hl) fun _ => .op (.store A13 (r2 i) (pay v) Finset.univ hx' hm) fun _ =>
          .op (.enqueueDma src' (.here dst') (.dma s') hsrc hdst hsem) k) Q) := by
  unfold GF
  iintro ⟨HG, HF, HO, HS⟩ Hk
  iapply (cur2 (wait_step c m (dsem (70 + i.val)) (aginM i) hqw hdw)) $$ HG HS
  iintro ⟨⟨Hi, -⟩, Hv, HS⟩
  iapply (cur3 (wto c m i hz hd2 hq2)) $$ HF HO HS
  iintro ⟨Ho, Hw, HO, HS⟩
  iapply (load_agin c i) $$ Hi
  iintro Hi
  iapply (cur3 (put_o c m i hx (w := pay (usq (yV m (rot c x.1.val) x.2))) ((hpay _).trans (out_ag c m ha)) hs hd hq)) $$ Ho Hw HO
  iintro ⟨HF, HO⟩
  iapply Hk
  isplitl [Hi]; · iapply (any_of c); iexact Hi
  isplitl [Hv]; · iexact Hv
  isplitl [HF]; · iexact HF
  isplitl [HO]; · iexact HO
  iexact HS

theorem out_own (j : Fin 4) : dotP (rsV m c 0 j) (rsV m c 1 j) (castP (tV c m (0, j))) (w16V m c) = outV m c (rot c (0 : Fin 4).val) j := by
  unfold tV outV
  rw [show rot c (0 : Fin 4).val = c from rot_zero c, if_pos rfl]
  rfl

theorem own_val (j : Fin 4) : sq (k0_pay28 (F := F) (dotP (rsV m c 0 j) (rsV m c 1 j) (castP (tV c m (0, j))) (w16V m c))) = outV m c (rot c (0 : Fin 4).val) j :=
  (pay_out _).trans (out_own c m j)

/-! ## The waits on this device's own transfers -/

theorem sentDrop {w : ℕ} {x : Code} (hx : sends[w]? = some x)
    {sp sp' : Space} {s' : DmaSem sig} {sh sh' : Shape} {e e' : EltTy} {dst' : Memref sig .tc sp sh e} {src' : Memref sig .tc sp' sh' e'}
    (hq : s' = dsem (sendN x)) (ha : dst'.view.dmaCredit = NB)
    {hsrc : src'.view.WordExact} {hdst : dst'.view.WordExact} {Q : α → sProp 𝕄} {k : PUnit → PT F α} :
    St m c 27 25 w ⊢ iprop((St m c 27 25 (w + 1) -∗ wpp c (k ⟨⟩) Q) -∗ wpp c (.op (.waitDma2 s' src' dst' hsrc hdst) k) Q) := by
  iintro HS Hk
  iapply (sent_step c m hx hq ha) $$ HS
  iintro ⟨-, HS⟩
  iapply Hk
  iexact HS

theorem NB_rows (v : MemV .bf16) : v.view.dmaCredit = NB := (rfl : v.view.dmaCredit = (t16M 0 0).view.dmaCredit).trans (NB_eq (t16M 0 0))

theorem get_left (j : Fin 4) : dmaPay m c (sendN (1, 1, j)) ⊢ iprop(∃ Y, owns (c : Thread nD τ) (rowsM A11 j) fullShare.left Y) := by
  have h : ¬(sendN (1, 1, j) < 32) ∧ sendN (1, 1, j) / 4 = 13 ∧ (spotOf (sendN (1, 1, j))).2.2 = j := by revert j; decide
  unfold dmaPay
  rw [if_neg h.1, if_pos h.2.1, h.2.2]
  iintro H; iexact H
theorem get_right (j : Fin 4) : dmaPay m c (sendN (1, 2, j)) ⊢ iprop(∃ Y, owns (c : Thread nD τ) (rowsM A11 j) fullShare.right Y) := by
  have h : ¬(sendN (1, 2, j) < 32) ∧ ¬(sendN (1, 2, j) / 4 = 13) ∧ sendN (1, 2, j) / 4 = 14 ∧ (spotOf (sendN (1, 2, j))).2.2 = j := by revert j; decide
  unfold dmaPay
  rw [if_neg h.1, if_neg h.2.1, if_pos h.2.2.1, h.2.2.2]
  iintro H; iexact H

/-- The two waits on the transfers of a chunk of the product give its staging rows back. -/
theorem sentRows {w : ℕ} {j : Fin 4} (hx : sends[w]? = some (1, 1, j)) (hx2 : sends[w + 1]? = some (1, 2, j))
    {sp sp' : Space} {s' : DmaSem sig} {sh sh' : Shape} {e e' : EltTy} {dst' : Memref sig .tc sp sh e} {src' : Memref sig .tc sp' sh' e'}
    (hq : s' = dsem (sendN (1, 1, j))) (ha : dst'.view.dmaCredit = NB) {hsrc : src'.view.WordExact} {hdst : dst'.view.WordExact}
    {sp2 sp2' : Space} {s2 : DmaSem sig} {sh2 sh2' : Shape} {e2 e2' : EltTy} {dst2 : Memref sig .tc sp2 sh2 e2} {src2 : Memref sig .tc sp2' sh2' e2'}
    (hq2 : s2 = dsem (sendN (1, 2, j))) (ha2 : dst2.view.dmaCredit = NB) {hsrc2 : src2.view.WordExact} {hdst2 : dst2.view.WordExact}
    {Q : α → sProp 𝕄} {k : PUnit → PT F α} :
    St m c 27 25 w ⊢ iprop((iprop(any F c (rowsM A11 j) ∗ St m c 27 25 (w + 2)) -∗ wpp c (k ⟨⟩) Q)
        -∗ wpp c (.op (.waitDma2 s' src' dst' hsrc hdst) fun _ => .op (.waitDma2 s2 src2 dst2 hsrc2 hdst2) k) Q) := by
  iintro HS Hk
  iapply (sent_step c m hx hq ha) $$ HS
  iintro ⟨Hl, HS⟩
  iapply (sent_step c m hx2 hq2 ha2) $$ HS
  iintro ⟨Hr, HS⟩
  iapply Hk
  isplitl [Hl Hr]
  · iapply (halves_any c (rowsM A11 j))
    isplitl [Hl]
    · iapply (get_left c m j); iexact Hl
    · iapply (get_right c m j); iexact Hr
  iexact HS

end Cert.RingProof
-- ==== Proof.SegB.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The chunks that are sent as they are. -/
theorem segB {v2 v13 v24 v35 v95 c0 : BitVec 32} {Q : α → sProp 𝕄} {K : PT F α} :
    iprop(St m c 3 1 0 ∗ Tp c m 2 1 ∗ owns (c : Thread nD τ) (cinM 0) fullShare (tV c m (2, 0)) ∗ sv F c (dsem 64) ∗ FT c m 65 1 (2, 1)
        ∗ any F c (coutM 0) ∗ sv F c (dsem 66) ∗ any F c (coutM 1) ∗ sv F c (dsem 67) ∗ Ep F c 0)
      ⊢ iprop((iprop(St m c 9 1 0 ∗ Tp c m 9 8 ∗ FT c m 64 0 (0, 0) ∗ any F c (cinM 1) ∗ sv F c (dsem 65) ∗ FE c m 0 (1, 2) ∗ FE c m 1 (1, 3) ∗ Ep F c 8) -∗ wpp c K Q)
        -∗ wpp c (onA (k0_part4 (F := F)) c v35 v95 c0 >>= fun v123 => onA (k0_part5 (F := F)) c v35 v123 >>= fun _ =>
          onA (k0_part6 (F := F)) c v13 v24 >>= fun _ => onA (k0_part7 (F := F)) c v13 v35 >>= fun _ => onA (k0_part8 (F := F)) c v24 >>= fun _ =>
          onA (k0_part9 (F := F)) c v13 >>= fun _ => onA (k0_part10 (F := F)) c v24 >>= fun w => onA (k0_part11 (F := F)) c v13 v24 w >>= fun _ =>
          onA (k0_part12 (F := F)) c v2 v13 >>= fun _ => onA (k0_part13 (F := F)) c v2 v24 >>= fun _ => K) Q) := by
  simp only [onA, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part4_skel k0_part5_skel k0_part6_skel k0_part7_skel k0_part8_skel k0_part9_skel k0_part10_skel k0_part11_skel k0_part12_skel k0_part13_skel
  simp only [Prog.lift, Prog.bind_op, Prog.bind_ret, Prog.pure_eq_ret]
  iintro ⟨HS, HT, H0, V0, H1, C0, U0, C1, U1, HE⟩ Hk
  iapply (cur4 (cv c m 0 (x := (2, 0)) (eV_cast c m (by decide)) rfl (fun X => pay_cast X) rfl (t16_at 2 0 (by decide)) rfl)) $$ H0 C0 U0 HE
  iintro ⟨H0, E0, HE⟩
  iapply (ldt c m 64 0 (x := (2, 2)) rfl (t_at 2 2 (by decide)) rfl rfl) $$ HT H0 V0
  iintro ⟨H0, HT⟩
  iapply (wlt c m 65 1 (x := (2, 1)) rfl rfl rfl) $$ H1 HT HS
  iintro ⟨H1, V1, HT, HS⟩
  iapply (cur4 (cv c m 1 (x := (2, 1)) (eV_cast c m (by decide)) rfl (fun X => pay_cast X) rfl (t16_at 2 1 (by decide)) rfl)) $$ H1 C1 U1 HE
  iintro ⟨H1, E1, HE⟩
  iapply (ldt c m 65 1 (x := (2, 3)) rfl (t_at 2 3 (by decide)) rfl rfl) $$ HT H1 V1
  iintro ⟨H1, HT⟩
  iapply (wlt c m 64 0 (x := (2, 2)) rfl rfl rfl) $$ H0 HT HS
  iintro ⟨H0, V0, HT, HS⟩
  iapply (ship c m 0 (x := (2, 0)) (y := (0, 3, 0)) rfl (by decide) (by decide) (by decide) (t16_at 2 0 (by decide)) rfl (t16_at 2 0 (by decide)) rfl (dev4 c) rfl rfl) $$ E0 HS
  iintro ⟨C0, U0, HS⟩
  iapply (cur4 (cv c m 0 (x := (2, 2)) (eV_cast c m (by decide)) rfl (fun X => pay_cast X) rfl (t16_at 2 2 (by decide)) rfl)) $$ H0 C0 U0 HE
  iintro ⟨H0, E0, HE⟩
  iapply (ldt c m 64 0 (x := (3, 0)) rfl (t_at 3 0 (by decide)) rfl rfl) $$ HT H0 V0
  iintro ⟨H0, HT⟩
  iapply (wlt c m 65 1 (x := (2, 3)) rfl rfl rfl) $$ H1 HT HS
  iintro ⟨H1, V1, HT, HS⟩
  iapply (ship c m 1 (x := (2, 1)) (y := (0, 3, 1)) rfl (by decide) (by decide) (by decide) (t16_at 2 1 (by decide)) rfl (t16_at 2 1 (by decide)) rfl (dev5 c) rfl rfl) $$ E1 HS
  iintro ⟨C1, U1, HS⟩
  iapply (cur4 (cv c m 1 (x := (2, 3)) (eV_cast c m (by decide)) rfl (fun X => pay_cast X) rfl (t16_at 2 3 (by decide)) rfl)) $$ H1 C1 U1 HE
  iintro ⟨H1, E1, HE⟩
  iapply (ldt c m 65 1 (x := (3, 1)) rfl (t_at 3 1 (by decide)) rfl rfl) $$ HT H1 V1
  iintro ⟨H1, HT⟩
  iapply (wlt c m 64 0 (x := (3, 0)) rfl rfl rfl) $$ H0 HT HS
  iintro ⟨H0, V0, HT, HS⟩
  iapply (ship c m 0 (x := (2, 2)) (y := (0, 3, 2)) rfl (by decide) (by decide) (by decide) (t16_at 2 2 (by decide)) rfl (t16_at 2 2 (by decide)) rfl (dev6 c) rfl rfl) $$ E0 HS
  iintro ⟨C0, U0, HS⟩
  iapply (cur4 (cv c m 0 (x := (3, 0)) (eV_cast c m (by decide)) rfl (fun X => pay_cast X) rfl (t16_at 3 0 (by decide)) rfl)) $$ H0 C0 U0 HE
  iintro ⟨H0, E0, HE⟩
  iapply (ldt c m 64 0 (x := (1, 2)) rfl (t_at 1 2 (by decide)) rfl rfl) $$ HT H0 V0
  iintro ⟨H0, HT⟩
  iapply (wlt c m 65 1 (x := (3, 1)) rfl rfl rfl) $$ H1 HT HS
  iintro ⟨H1, V1, HT, HS⟩
  iapply (ship c m 1 (x := (2, 3)) (y := (0, 3, 3)) rfl (by decide) (by decide) (by decide) (t16_at 2 3 (by decide)) rfl (t16_at 2 3 (by decide)) rfl (dev7 c) rfl rfl) $$ E1 HS
  iintro ⟨C1, U1, HS⟩
  iapply (cur4 (cv c m 1 (x := (3, 1)) (eV_cast c m (by decide)) rfl (fun X => pay_cast X) rfl (t16_at 3 1 (by decide)) rfl)) $$ H1 C1 U1 HE
  iintro ⟨H1, E1, HE⟩
  iapply (ldt c m 65 1 (x := (1, 3)) rfl (t_at 1 3 (by decide)) rfl rfl) $$ HT H1 V1
  iintro ⟨H1, HT⟩
  iapply (wlt c m 64 0 (x := (1, 2)) rfl rfl rfl) $$ H0 HT HS
  iintro ⟨H0, V0, HT, HS⟩
  iapply (ship c m 0 (x := (3, 0)) (y := (0, 2, 0)) rfl (by decide) (by decide) (by decide) (t16_at 3 0 (by decide)) rfl (t16_at 3 0 (by decide)) rfl (dev8 c) rfl rfl) $$ E0 HS
  iintro ⟨C0, U0, HS⟩
  iapply (cur4 (cv c m 0 (x := (1, 2)) (eV_cast c m (by decide)) rfl (fun X => pay_cast X) rfl (t16_at 1 2 (by decide)) rfl)) $$ H0 C0 U0 HE
  iintro ⟨H0, E0, HE⟩
  iapply (ldt c m 64 0 (x := (0, 0)) rfl (t_at0 0) rfl rfl) $$ HT H0 V0
  iintro ⟨H0, HT⟩
  iapply (wlt c m 65 1 (x := (1, 3)) rfl rfl rfl) $$ H1 HT HS
  iintro ⟨H1, V1, HT, HS⟩
  iapply (ship c m 1 (x := (3, 1)) (y := (0, 2, 1)) rfl (by decide) (by decide) (by decide) (t16_at 3 1 (by decide)) rfl (t16_at 3 1 (by decide)) rfl (dev9 c) rfl rfl) $$ E1 HS
  iintro ⟨C1, U1, HS⟩
  iapply (cur4 (cv c m 1 (x := (1, 3)) (eV_cast c m (by decide)) rfl (fun X => pay_cast X) rfl (t16_at 1 3 (by decide)) rfl)) $$ H1 C1 U1 HE
  iintro ⟨H1, E1, HE⟩
  iapply Hk
  isplitl [HS]; · iexact HS
  isplitl [HT]; · iexact HT
  isplitl [H0]; · iexact H0
  isplitl [H1]; · iexact H1
  isplitl [V1]; · iexact V1
  isplitl [E0]; · iexact E0
  isplitl [E1]; · iexact E1
  iexact HE

end Cert.RingProof
-- ==== Proof.SegC.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The own block and the weights narrowed. -/
theorem segC {x1 x2 x3 : BitVec 32} {Q : α → sProp 𝕄} {K : PT F α} :
    iprop(St m c 9 1 0 ∗ Tp c m 9 8 ∗ Wp c m 0 0 ∗ FT c m 64 0 (0, 0) ∗ any F c (cinM 1) ∗ sv F c (dsem 65) ∗ Own c m 0 ∗ W16 c m 0
        ∗ FE c m 0 (1, 2) ∗ FE c m 1 (1, 3))
      ⊢ iprop((iprop(St m c 9 1 0 ∗ Tp c m 12 12 ∗ Wp c m 4 4 ∗ any F c (cinM 0) ∗ sv F c (dsem 64) ∗ any F c (cinM 1) ∗ sv F c (dsem 65) ∗ Own c m 4 ∗ W16 c m 4
          ∗ TE c m (1, 2) ∗ any F c (coutM 0) ∗ sv F c (dsem 66) ∗ FE c m 1 (1, 3)) -∗ wpp c K Q)
        -∗ wpp c (onA (k0_part14 (F := F)) c x1 >>= fun v399 => onA (k0_part15 (F := F)) c x1 v399 >>= fun _ =>
          onA (k0_part16 (F := F)) c >>= fun _ => onA (k0_part17 (F := F)) >>= fun v481 => onA (k0_part18 (F := F)) c x2 v481 >>= fun _ => K) Q) := by
  simp only [onA, k0_part14_eq_skeleton, k0_part15_eq_skeleton, k0_part16_eq_skeleton, k0_part17_eq_skeleton, k0_part18_eq_skeleton]
  unfold k0_part14_skel k0_part15_skel k0_part16_skel k0_part17_skel k0_part18_skel
  simp only [Prog.lift, Prog.bind_op, Prog.bind_ret, Prog.pure_eq_ret]
  iintro ⟨HS, HT, HW, H0, H1, V1, HO, HR, E0, E1⟩ Hk
  iapply (ldt c m 65 1 (x := (0, 1)) rfl (t_at0 1) rfl rfl) $$ HT H1 V1
  iintro ⟨H1, HT⟩
  iapply (wlt c m 64 0 (x := (0, 0)) rfl rfl rfl) $$ H0 HT HS
  iintro ⟨H0, V0, HT, HS⟩
  iapply (cur2 (rowst c A8 (fun j => castP (tV c m (0, j))) 0 (j := 0) rfl rfl (fun X => pay_rows X))) $$ H0 HO
  iintro ⟨H0, HO⟩
  iapply (ldt c m 64 0 (x := (0, 2)) rfl (t_at0 2) rfl rfl) $$ HT H0 V0
  iintro ⟨H0, HT⟩
  iapply (wlt c m 65 1 (x := (0, 1)) rfl rfl rfl) $$ H1 HT HS
  iintro ⟨H1, V1, HT, HS⟩
  iapply (cur2 (rowst c A8 (fun j => castP (tV c m (0, j))) 1 (j := 1) rfl rfl (fun X => pay_rows X))) $$ H1 HO
  iintro ⟨H1, HO⟩
  iapply (ldt c m 65 1 (x := (0, 3)) rfl (t_at0 3) rfl rfl) $$ HT H1 V1
  iintro ⟨H1, HT⟩
  iapply (wlt c m 64 0 (x := (0, 2)) rfl rfl rfl) $$ H0 HT HS
  iintro ⟨H0, V0, HT, HS⟩
  iapply (cur2 (rowst c A8 (fun j => castP (tV c m (0, j))) 0 (j := 2) rfl rfl (fun X => pay_rows X))) $$ H0 HO
  iintro ⟨H0, HO⟩
  iapply (ldw c m 64 0 (x := 0) rfl rfl rfl rfl) $$ HW H0 V0
  iintro ⟨H0, HW⟩
  iapply (wlt c m 65 1 (x := (0, 3)) rfl rfl rfl) $$ H1 HT HS
  iintro ⟨H1, V1, HT, HS⟩
  iapply (cur2 (rowst c A8 (fun j => castP (tV c m (0, j))) 1 (j := 3) rfl rfl (fun X => pay_rows X))) $$ H1 HO
  iintro ⟨H1, HO⟩
  iapply (ldw c m 65 1 (x := 1) rfl rfl rfl rfl) $$ HW H1 V1
  iintro ⟨H1, HW⟩
  iapply (wlw c m 64 0 (x := 0) rfl rfl rfl) $$ H0 HW HS
  iintro ⟨H0, V0, HW, HS⟩
  iapply (cur2 (rowst c A9 (fun j => castP (wch m c j)) 0 (j := 0) rfl rfl (fun X => pay_rows X))) $$ H0 HR
  iintro ⟨H0, HR⟩
  iapply (ldw c m 64 0 (x := 2) rfl rfl rfl rfl) $$ HW H0 V0
  iintro ⟨H0, HW⟩
  iapply (wlw c m 65 1 (x := 1) rfl rfl rfl) $$ H1 HW HS
  iintro ⟨H1, V1, HW, HS⟩
  iapply (cur2 (rowst c A9 (fun j => castP (wch m c j)) 1 (j := 1) rfl rfl (fun X => pay_rows X))) $$ H1 HR
  iintro ⟨H1, HR⟩
  iapply (ldw c m 65 1 (x := 3) rfl rfl rfl rfl) $$ HW H1 V1
  iintro ⟨H1, HW⟩
  iapply (wlw c m 64 0 (x := 2) rfl rfl rfl) $$ H0 HW HS
  iintro ⟨H0, V0, HW, HS⟩
  iapply (cur2 (rowst c A9 (fun j => castP (wch m c j)) 0 (j := 2) rfl rfl (fun X => pay_rows X))) $$ H0 HR
  iintro ⟨H0, HR⟩
  iapply (wlw c m 65 1 (x := 3) rfl rfl rfl) $$ H1 HW HS
  iintro ⟨H1, V1, HW, HS⟩
  iapply (cur2 (rowst c A9 (fun j => castP (wch m c j)) 1 (j := 3) rfl rfl (fun X => pay_rows X))) $$ H1 HR
  iintro ⟨H1, HR⟩
  iapply (shipW c m 0 (x := (1, 2)) (t16_at 1 2 (by decide)) rfl) $$ E0 HS
  iintro ⟨T0, C0, E0, HS⟩
  iapply Hk
  isplitl [HS]; · iexact HS
  isplitl [HT]; · iexact HT
  isplitl [HW]; · iexact HW
  isplitl [H0]; · iexact H0
  isplitl [V0]; · iexact V0
  isplitl [H1]; · iexact H1
  isplitl [V1]; · iexact V1
  isplitl [HO]; · iexact HO
  isplitl [HR]; · iexact HR
  isplitl [T0]; · iexact T0
  isplitl [C0]; · iexact C0
  isplitl [E0]; · iexact E0
  iexact E1

end Cert.RingProof
-- ==== Proof.SegD.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The diagonal chunks that are passed on, added to this device's own. -/
theorem segD {v2 v13 v24 : BitVec 32} {Q : α → sProp 𝕄} {K : PT F α} :
    iprop(St m c 9 1 0 ∗ Tp c m 12 12 ∗ any F c (cinM 0) ∗ sv F c (dsem 64) ∗ sv F c (dsem 65) ∗ any F c (sumM 0)
        ∗ TE c m (1, 2) ∗ any F c (coutM 0) ∗ sv F c (dsem 66) ∗ FE c m 1 (1, 3) ∗ Ep F c 8)
      ⊢ iprop((iprop(St m c 15 5 0 ∗ Tp c m 16 16 ∗ any F c (cinM 0) ∗ sv F c (dsem 64) ∗ sv F c (dsem 65) ∗ any F c (sumM 0)
          ∗ any F c (coutM 0) ∗ sv F c (dsem 66) ∗ any F c (coutM 1) ∗ sv F c (dsem 67)) -∗ wpp c K Q)
        -∗ wpp c (onA (k0_part19 (F := F)) c v2 v13 >>= fun _ => onA (k0_part20 (F := F)) c v13 >>= fun v562 => onA (k0_part21 (F := F)) c v2 v13 v562 >>= fun _ =>
          onA (k0_part22 (F := F)) c >>= fun _ => onA (k0_part23 (F := F)) c v2 v24 >>= fun _ => onA (k0_part24 (F := F)) c v13 >>= fun ⟨v666, v667⟩ =>
          onA (k0_part25 (F := F)) c v2 v24 v666 v667 >>= fun _ => onA (k0_part26 (F := F)) c v13 >>= fun _ => onA (k0_part27 (F := F)) c v24 >>= fun _ =>
          onA (k0_part28 (F := F)) c v2 v24 >>= fun _ => K) Q) := by
  simp only [onA, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part19_skel k0_part20_skel k0_part21_skel k0_part22_skel k0_part23_skel k0_part24_skel k0_part25_skel k0_part26_skel k0_part27_skel k0_part28_skel
  simp only [Prog.lift, Prog.bind_op, Prog.bind_ret, Prog.pure_eq_ret]
  iintro ⟨HS, HT, H0, V0, V1, R0, T0, C0, U0, E1, HE⟩ Hk
  iapply (shipS c m (x := (1, 2)) (y := (0, 1, 2)) rfl (by decide) (by decide) (by decide) (t16_at 1 2 (by decide)) rfl (dev10 c) rfl rfl) $$ T0 HS
  iintro HS
  iapply (ship c m 1 (x := (1, 3)) (y := (0, 1, 3)) rfl (by decide) (by decide) (by decide) (t16_at 1 3 (by decide)) rfl (t16_at 1 3 (by decide)) rfl (dev11 c) rfl rfl) $$ E1 HS
  iintro ⟨C1, U1, HS⟩
  iapply (cur3 (rld c m 0 (s := 2) (j := 0) rfl (by decide) (by decide) (by decide) rfl rfl rfl rfl)) $$ R0 V0 HS
  iintro ⟨R0, HS⟩
  iapply (ldt c m 65 0 (x := (1, 0)) rfl (t_at 1 0 (by decide)) rfl rfl) $$ HT H0 V1
  iintro ⟨H0, HT⟩
  iapply (cur2 (wrf c m 0 rfl rfl)) $$ R0 HS
  iintro ⟨R0, V0, HS⟩
  iapply (wlt c m 65 0 (x := (1, 0)) rfl rfl rfl) $$ H0 HT HS
  iintro ⟨H0, V1, HT, HS⟩
  icombine R0 H0 as HP
  iapply (cur4 (stageOut c m 0 (x := (1, 0)) (s := 2) (eV_add c m (by decide)) rfl (fun Y X => pay_add Y X) rfl (t16_at 1 0 (by decide)) rfl)) $$ HP C0 U0 HE
  iintro ⟨R0, H0, E0, HE⟩
  iapply (cur3 (rld c m 0 (s := 2) (j := 1) rfl (by decide) (by decide) (by decide) rfl rfl rfl rfl)) $$ R0 V0 HS
  iintro ⟨R0, HS⟩
  iapply (ldt c m 65 0 (x := (1, 1)) rfl (t_at 1 1 (by decide)) rfl rfl) $$ HT H0 V1
  iintro ⟨H0, HT⟩
  iapply (cur2 (wrf c m 0 rfl rfl)) $$ R0 HS
  iintro ⟨R0, V0, HS⟩
  iapply (wlt c m 65 0 (x := (1, 1)) rfl rfl rfl) $$ H0 HT HS
  iintro ⟨H0, V1, HT, HS⟩
  icombine R0 H0 as HP
  iapply (cur4 (stageOut c m 1 (x := (1, 1)) (s := 2) (eV_add c m (by decide)) rfl (fun Y X => pay_add Y X) rfl (t16_at 1 1 (by decide)) rfl)) $$ HP C1 U1 HE
  iintro ⟨R0, H0, E1, HE⟩
  iapply (cur3 (rld c m 0 (s := 3) (j := 2) rfl (by decide) (by decide) (by decide) rfl rfl rfl rfl)) $$ R0 V0 HS
  iintro ⟨R0, HS⟩
  iapply (ldt c m 65 0 (x := (3, 2)) rfl (t_at 3 2 (by decide)) rfl rfl) $$ HT H0 V1
  iintro ⟨H0, HT⟩
  iapply (cur2 (wrf c m 0 rfl rfl)) $$ R0 HS
  iintro ⟨R0, V0, HS⟩
  iapply (wlt c m 65 0 (x := (3, 2)) rfl rfl rfl) $$ H0 HT HS
  iintro ⟨H0, V1, HT, HS⟩
  iapply (ship c m 0 (x := (1, 0)) (y := (0, 1, 0)) rfl (by decide) (by decide) (by decide) (t16_at 1 0 (by decide)) rfl (t16_at 1 0 (by decide)) rfl (dev12 c) rfl rfl) $$ E0 HS
  iintro ⟨C0, U0, HS⟩
  icombine R0 H0 as HP
  iapply (cur4 (stageOut c m 0 (x := (3, 2)) (s := 3) (eV_add c m (by decide)) rfl (fun Y X => pay_add Y X) rfl (t16_at 3 2 (by decide)) rfl)) $$ HP C0 U0 HE
  iintro ⟨R0, H0, E0, HE⟩
  iapply (cur3 (rld c m 0 (s := 3) (j := 3) rfl (by decide) (by decide) (by decide) rfl rfl rfl rfl)) $$ R0 V0 HS
  iintro ⟨R0, HS⟩
  iapply (ldt c m 65 0 (x := (3, 3)) rfl (t_at 3 3 (by decide)) rfl rfl) $$ HT H0 V1
  iintro ⟨H0, HT⟩
  iapply (cur2 (wrf c m 0 rfl rfl)) $$ R0 HS
  iintro ⟨R0, V0, HS⟩
  iapply (wlt c m 65 0 (x := (3, 3)) rfl rfl rfl) $$ H0 HT HS
  iintro ⟨H0, V1, HT, HS⟩
  iapply (ship c m 1 (x := (1, 1)) (y := (0, 1, 1)) rfl (by decide) (by decide) (by decide) (t16_at 1 1 (by decide)) rfl (t16_at 1 1 (by decide)) rfl (dev13 c) rfl rfl) $$ E1 HS
  iintro ⟨C1, U1, HS⟩
  icombine R0 H0 as HP
  iapply (cur4 (stageOut c m 1 (x := (3, 3)) (s := 3) (eV_add c m (by decide)) rfl (fun Y X => pay_add Y X) rfl (t16_at 3 3 (by decide)) rfl)) $$ HP C1 U1 HE
  iintro ⟨R0, H0, E1, HE⟩
  iapply (ship c m 0 (x := (3, 2)) (y := (0, 2, 2)) rfl (by decide) (by decide) (by decide) (t16_at 3 2 (by decide)) rfl (t16_at 3 2 (by decide)) rfl (dev14 c) rfl rfl) $$ E0 HS
  iintro ⟨C0, U0, HS⟩
  iapply (ship c m 1 (x := (3, 3)) (y := (0, 2, 3)) rfl (by decide) (by decide) (by decide) (t16_at 3 3 (by decide)) rfl (t16_at 3 3 (by decide)) rfl (dev15 c) rfl rfl) $$ E1 HS
  iintro ⟨C1, U1, HS⟩
  iapply Hk
  isplitl [HS]; · iexact HS
  isplitl [HT]; · iexact HT
  isplitl [H0]; · iexact H0
  isplitl [V0]; · iexact V0
  isplitl [V1]; · iexact V1
  isplitl [R0]; · iexact R0
  isplitl [C0]; · iexact C0
  isplitl [U0]; · iexact U0
  isplitl [C1]; · iexact C1
  iexact U1

end Cert.RingProof
-- ==== Proof.SegE.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The first two chunks of this device's own block: added up, multiplied, sent out and stored. -/
theorem segE {v2 v13 v24 : BitVec 32} {Q : α → sProp 𝕄} {K : PT F α} :
    iprop(St m c 15 5 0 ∗ any F c (sumM 0) ∗ any F c (sumM 1) ∗ sv F c (dsem 64) ∗ sv F c (dsem 65) ∗ iprop(OwnQ c m 0 ∗ ((c : Thread nD τ).loc cc0_scratch3 ↦{fullShare} (w16V m c : S2048x2048.Idx → Elt F .bf16))) ∗ Yp F c 0
        ∗ any F c (agoutM 0) ∗ sv F c (dsem 68) ∗ any F c (agoutM 1) ∗ sv F c (dsem 69) ∗ Op c m 0 0)
      ⊢ iprop((iprop(St m c 19 9 0 ∗ any F c (sumM 0) ∗ any F c (sumM 1) ∗ sv F c (dsem 64) ∗ sv F c (dsem 65) ∗ iprop(OwnQ c m 2 ∗ ((c : Thread nD τ).loc cc0_scratch3 ↦{fullShare} (w16V m c : S2048x2048.Idx → Elt F .bf16))) ∗ Yp F c 2 ∗ FO c m 0 (0, 0) ∗ FO c m 1 (0, 1) ∗ Op c m 2 0) -∗ wpp c K Q)
        -∗ wpp c (onA (k0_part29 (F := F)) v2 >>= fun _ =>
          onA (k0_part30 (F := F)) c v13 >>= fun v820 =>
          onA (k0_part31 (F := F)) c v2 v24 v820 >>= fun _ =>
          onA (k0_part32 (F := F)) v2 >>= fun _ =>
          onA (k0_part33 (F := F))  >>= fun v905 =>
          onA (k0_part34 (F := F)) c v2 v13 v24 v905 >>= fun _ =>
          K) Q) := by
  simp only [onA, k0_part29_eq_skeleton, k0_part30_eq_skeleton, k0_part31_eq_skeleton, k0_part32_eq_skeleton, k0_part33_eq_skeleton, k0_part34_eq_skeleton]
  unfold k0_part29_skel k0_part30_skel k0_part31_skel k0_part32_skel k0_part33_skel k0_part34_skel
  simp only [Prog.lift, Prog.bind_op, Prog.bind_ret, Prog.pure_eq_ret]
  iintro ⟨HS, R0, R1, V0, V1, HB, HY, X0, Y0, X1, Y1, HO⟩ Hk
  iapply (cur3 (rld c m 0 (s := 0) (j := 0) rfl (by decide) (by decide) (by decide) rfl rfl rfl rfl)) $$ R0 V0 HS
  iintro ⟨R0, HS⟩
  iapply (cur3 (rld c m 1 (s := 1) (j := 0) rfl (by decide) (by decide) (by decide) rfl rfl rfl rfl)) $$ R1 V1 HS
  iintro ⟨R1, HS⟩
  iapply (cur2 (wrf c m 0 rfl rfl)) $$ R0 HS
  iintro ⟨R0, V0, HS⟩
  iapply (cur2 (wrf c m 1 rfl rfl)) $$ R1 HS
  iintro ⟨R1, V1, HS⟩
  icombine R0 R1 as HR
  iapply (cur4 (finMid c m (j := 0) (t := 0) rfl rfl rfl rfl (by decide) (by decide) (fun P Q O W => pay_y P Q O W) rfl (ag_at c 0 (off4_eq c)) (dev16 c) rfl (sem_at c 0 (off3_eq c)) rfl (ag_at c 0 (off4_eq c)) (dev17 c) rfl (sem_at c 0 (off3_eq c)))) $$ HR HB HY HS
  iintro ⟨R0, R1, HB, HY, HS⟩
  iapply (cur3 (put_o c m 0 (x := (0, 0)) rfl (own_val c m 0) rfl (out_at0 0) rfl)) $$ X0 Y0 HO
  iintro ⟨F0, HO⟩
  iapply (cur3 (rld c m 0 (s := 0) (j := 1) rfl (by decide) (by decide) (by decide) rfl rfl rfl rfl)) $$ R0 V0 HS
  iintro ⟨R0, HS⟩
  iapply (cur3 (rld c m 1 (s := 1) (j := 1) rfl (by decide) (by decide) (by decide) rfl rfl rfl rfl)) $$ R1 V1 HS
  iintro ⟨R1, HS⟩
  iapply (cur2 (wrf c m 0 rfl rfl)) $$ R0 HS
  iintro ⟨R0, V0, HS⟩
  iapply (cur2 (wrf c m 1 rfl rfl)) $$ R1 HS
  iintro ⟨R1, V1, HS⟩
  icombine R0 R1 as HR
  iapply (cur4 (finMid c m (j := 1) (t := 1) rfl rfl rfl rfl (by decide) (by decide) (fun P Q O W => pay_y P Q O W) rfl (ag_at c 1 (off6_eq c)) (dev18 c) rfl (sem_at c 1 (off5_eq c)) rfl (ag_at c 1 (off6_eq c)) (dev19 c) rfl (sem_at c 1 (off5_eq c)))) $$ HR HB HY HS
  iintro ⟨R0, R1, HB, HY, HS⟩
  iapply (cur3 (put_o c m 1 (x := (0, 1)) rfl (own_val c m 1) rfl (out_at0 1) rfl)) $$ X1 Y1 HO
  iintro ⟨F1, HO⟩
  iapply Hk
  isplitl [HS]; · iexact HS
  isplitl [R0]; · iexact R0
  isplitl [R1]; · iexact R1
  isplitl [V0]; · iexact V0
  isplitl [V1]; · iexact V1
  isplitl [HB]; · iexact HB
  isplitl [HY]; · iexact HY
  isplitl [F0]; · iexact F0
  isplitl [F1]; · iexact F1
  iexact HO

end Cert.RingProof
-- ==== Proof.SegF.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The other two chunks of this device's own block, and the first gathered ones. -/
theorem segF {v2 v13 v24 : BitVec 32} {Q : α → sProp 𝕄} {K : PT F α} :
    iprop(St m c 19 9 0 ∗ any F c (sumM 0) ∗ any F c (sumM 1) ∗ sv F c (dsem 64) ∗ sv F c (dsem 65) ∗ iprop(OwnQ c m 2 ∗ ((c : Thread nD τ).loc cc0_scratch3 ↦{fullShare} (w16V m c : S2048x2048.Idx → Elt F .bf16))) ∗ Yp F c 2 ∗ FO c m 0 (0, 0) ∗ FO c m 1 (0, 1) ∗ Op c m 2 0
        ∗ any F c (aginM 0) ∗ sv F c (dsem 70) ∗ any F c (aginM 1) ∗ sv F c (dsem 71))
      ⊢ iprop((iprop(St m c 24 15 0 ∗ any F c (sumM 0) ∗ any F c (sumM 1) ∗ sv F c (dsem 64) ∗ sv F c (dsem 65) ∗ iprop(OwnQ c m 4 ∗ ((c : Thread nD τ).loc cc0_scratch3 ↦{fullShare} (w16V m c : S2048x2048.Idx → Elt F .bf16))) ∗ any F c (aginM 0) ∗ sv F c (dsem 70) ∗ GF c m fullShare 1 (3, 0)
          ∗ FO c m 0 (1, 0) ∗ FO c m 1 (0, 3) ∗ Op c m 5 3) -∗ wpp c K Q)
        -∗ wpp c (onA (k0_part35 (F := F)) v2 >>= fun _ =>
          onA (k0_part36 (F := F))  >>= fun v990 =>
          onA (k0_part37 (F := F)) c v13 v24 v990 >>= fun v1018 =>
          onA (k0_part38 (F := F)) c v2 v990 v1018 >>= fun w38 =>
          onA (k0_part39 (F := F)) v2 w38 >>= fun v1068 =>
          onA (k0_part40 (F := F)) c v13 v24 v1068 >>= fun v1080 =>
          onA (k0_part41 (F := F)) c v2 v1080 >>= fun w41 =>
          onA (k0_part42 (F := F)) c v2 v24 w41 >>= fun _ =>
          onA (k0_part43 (F := F)) c v2 v13 >>= fun _ =>
          K) Q) := by
  simp only [onA, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part35_skel k0_part36_skel k0_part37_skel k0_part38_skel k0_part39_skel k0_part40_skel k0_part41_skel k0_part42_skel k0_part43_skel
  simp only [Prog.lift, Prog.bind_op, Prog.bind_ret, Prog.pure_eq_ret]
  iintro ⟨HS, R0, R1, V0, V1, HB, HY, F0, F1, HO, J0, K0, J1, K1⟩ Hk
  iapply (cur3 (rld c m 0 (s := 0) (j := 2) rfl (by decide) (by decide) (by decide) rfl rfl rfl rfl)) $$ R0 V0 HS
  iintro ⟨R0, HS⟩
  iapply (cur3 (rld c m 1 (s := 1) (j := 2) rfl (by decide) (by decide) (by decide) rfl rfl rfl rfl)) $$ R1 V1 HS
  iintro ⟨R1, HS⟩
  iapply (cur2 (wrf c m 0 rfl rfl)) $$ R0 HS
  iintro ⟨R0, V0, HS⟩
  iapply (cur2 (wrf c m 1 rfl rfl)) $$ R1 HS
  iintro ⟨R1, V1, HS⟩
  icombine R0 R1 as HR
  iapply (cur4 (finMid c m (j := 2) (t := 2) rfl rfl rfl rfl (by decide) (by decide) (fun P Q O W => pay_y P Q O W) rfl (ag_at c 2 (off8_eq c)) (dev20 c) rfl (sem_at c 2 (off7_eq c)) rfl (ag_at c 2 (off8_eq c)) (dev21 c) rfl (sem_at c 2 (off7_eq c)))) $$ HR HB HY HS
  iintro ⟨R0, R1, HB, HY, HS⟩
  iapply (cur3 (wto c m 0 (x := (0, 0)) rfl (out_at0 0) rfl)) $$ F0 HO HS
  iintro ⟨X0, Y0, HO, HS⟩
  iapply (cur3 (put_o c m 0 (x := (0, 2)) rfl (own_val c m 2) rfl (out_at0 2) rfl)) $$ X0 Y0 HO
  iintro ⟨F0, HO⟩
  iapply (cur3 (rld c m 0 (s := 0) (j := 3) rfl (by decide) (by decide) (by decide) rfl rfl rfl rfl)) $$ R0 V0 HS
  iintro ⟨R0, HS⟩
  iapply (cur3 (rld c m 1 (s := 1) (j := 3) rfl (by decide) (by decide) (by decide) rfl rfl rfl rfl)) $$ R1 V1 HS
  iintro ⟨R1, HS⟩
  iapply (cur2 (wrf c m 0 rfl rfl)) $$ R0 HS
  iintro ⟨R0, V0, HS⟩
  iapply (cur2 (wrf c m 1 rfl rfl)) $$ R1 HS
  iintro ⟨R1, V1, HS⟩
  icombine R0 R1 as HR
  iapply (cur4 (finMid c m (j := 3) (t := 3) rfl rfl rfl rfl (by decide) (by decide) (fun P Q O W => pay_y P Q O W) rfl (ag_at c 3 (off10_eq c)) (dev22 c) rfl (sem_at c 3 (off9_eq c)) rfl (ag_at c 3 (off10_eq c)) (dev23 c) rfl (sem_at c 3 (off9_eq c)))) $$ HR HB HY HS
  iintro ⟨R0, R1, HB, HY, HS⟩
  iapply (cur3 (wto c m 1 (x := (0, 1)) rfl (out_at0 1) rfl)) $$ F1 HO HS
  iintro ⟨X1, Y1, HO, HS⟩
  iapply (cur3 (put_o c m 1 (x := (0, 3)) rfl (own_val c m 3) rfl (out_at0 3) rfl)) $$ X1 Y1 HO
  iintro ⟨F1, HO⟩
  iapply (cur3 (ginRelay c m 0 (o := 1) (j := 0) rfl (by decide) (by decide) (by decide) rfl (by decide) rfl (sem_at (rot c (1 : Fin 4).val) 0 (off11_eq c 1 (by decide))) (ag_at (rot c (1 : Fin 4).val) 0 (off12_eq c 1 (by decide))) (ag_at (rot c (1 : Fin 4).val) 0 (off12_eq c 1 (by decide))) (dev24 c) rfl (sem_at (rot c (1 : Fin 4).val) 0 (off11_eq c 1 (by decide))) (ag_at (rot c (1 : Fin 4).val) 0 (off12_eq c 1 (by decide))) rfl rfl)) $$ J0 K0 HS
  iintro ⟨G0, HS⟩
  iapply (cur3 (gin c m 1 (o := 3) (j := 0) rfl (by decide) (by decide) (by decide) (sem_at (rot c (3 : Fin 4).val) 0 (off11_eq c 3 (by decide))) (ag_at (rot c (3 : Fin 4).val) 0 (off12_eq c 3 (by decide))) rfl rfl)) $$ J1 K1 HS
  iintro ⟨G1, HS⟩
  iapply (cur4 (gproc c m 0 fullShare.left (x := (1, 0)) (z := (0, 2)) rfl (by decide) rfl rfl rfl (out_at0 2) rfl (fun X => pay_ext X) rfl (out_at 1 0 (by decide)) rfl)) $$ G0 F0 HO HS
  iintro ⟨J0, K0, F0, HO, HS⟩
  iapply Hk
  isplitl [HS]; · iexact HS
  isplitl [R0]; · iexact R0
  isplitl [R1]; · iexact R1
  isplitl [V0]; · iexact V0
  isplitl [V1]; · iexact V1
  isplitl [HB]; · iexact HB
  isplitl [J0]; · iexact J0
  isplitl [K0]; · iexact K0
  isplitl [G1]; · iexact G1
  isplitl [F0]; · iexact F0
  isplitl [F1]; · iexact F1
  iexact HO

end Cert.RingProof
-- ==== Proof.SegG.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- Gathered chunks of the first two quarters. -/
theorem segG {v2 v13 v24 v35 : BitVec 32} {Q : α → sProp 𝕄} {K : PT F α} :
    iprop(St m c 24 15 0 ∗ any F c (aginM 0) ∗ sv F c (dsem 70) ∗ GF c m fullShare 1 (3, 0) ∗ FO c m 0 (1, 0) ∗ FO c m 1 (0, 3) ∗ Op c m 5 3)
      ⊢ iprop((iprop(St m c 25 19 0 ∗ any F c (aginM 0) ∗ sv F c (dsem 70) ∗ GF c m fullShare 1 (1, 2) ∗ FO c m 0 (2, 0) ∗ FO c m 1 (3, 1) ∗ Op c m 9 7) -∗ wpp c K Q)
        -∗ wpp c (onA (k0_part44 (F := F)) c v24 >>= fun _ =>
          onA (k0_part45 (F := F)) c v2 v24 >>= fun _ =>
          onA (k0_part46 (F := F)) c v13 >>= fun _ =>
          onA (k0_part47 (F := F)) c v2 >>= fun v1293 =>
          onA (k0_part48 (F := F)) c v2 v24 v1293 >>= fun _ =>
          onA (k0_part49 (F := F)) c v2 v35 >>= fun _ =>
          K) Q) := by
  simp only [onA, k0_part44_eq_skeleton, k0_part45_eq_skeleton, k0_part46_eq_skeleton, k0_part47_eq_skeleton, k0_part48_eq_skeleton, k0_part49_eq_skeleton]
  unfold k0_part44_skel k0_part45_skel k0_part46_skel k0_part47_skel k0_part48_skel k0_part49_skel
  simp only [Prog.lift, Prog.bind_op, Prog.bind_ret, Prog.pure_eq_ret]
  iintro ⟨HS, J0, K0, G1, F0, F1, HO⟩ Hk
  iapply (cur3 (ginRelay c m 0 (o := 1) (j := 1) rfl (by decide) (by decide) (by decide) rfl (by decide) rfl (sem_at (rot c (1 : Fin 4).val) 1 (off13_eq c 1 (by decide))) (ag_at (rot c (1 : Fin 4).val) 1 (off14_eq c 1 (by decide))) (ag_at (rot c (1 : Fin 4).val) 1 (off14_eq c 1 (by decide))) (dev25 c) rfl (sem_at (rot c (1 : Fin 4).val) 1 (off13_eq c 1 (by decide))) (ag_at (rot c (1 : Fin 4).val) 1 (off14_eq c 1 (by decide))) rfl rfl)) $$ J0 K0 HS
  iintro ⟨G0, HS⟩
  iapply (cur4 (gproc c m 1 fullShare (x := (3, 0)) (z := (0, 3)) rfl (by decide) rfl rfl rfl (out_at0 3) rfl (fun X => pay_ext X) rfl (out_at 3 0 (by decide)) rfl)) $$ G1 F1 HO HS
  iintro ⟨J1, K1, F1, HO, HS⟩
  iapply (cur3 (gin c m 1 (o := 3) (j := 1) rfl (by decide) (by decide) (by decide) (sem_at (rot c (3 : Fin 4).val) 1 (off13_eq c 3 (by decide))) (ag_at (rot c (3 : Fin 4).val) 1 (off14_eq c 3 (by decide))) rfl rfl)) $$ J1 K1 HS
  iintro ⟨G1, HS⟩
  iapply (cur4 (gproc c m 0 fullShare.left (x := (1, 1)) (z := (1, 0)) rfl (by decide) rfl rfl rfl (out_at 1 0 (by decide)) rfl (fun X => pay_ext X) rfl (out_at 1 1 (by decide)) rfl)) $$ G0 F0 HO HS
  iintro ⟨J0, K0, F0, HO, HS⟩
  iapply (cur3 (gin c m 0 (o := 2) (j := 0) rfl (by decide) (by decide) (by decide) (sem_at (rot c (2 : Fin 4).val) 0 (off11_eq c 2 (by decide))) (ag_at (rot c (2 : Fin 4).val) 0 (off12_eq c 2 (by decide))) rfl rfl)) $$ J0 K0 HS
  iintro ⟨G0, HS⟩
  iapply (cur4 (gproc c m 1 fullShare (x := (3, 1)) (z := (3, 0)) rfl (by decide) rfl rfl rfl (out_at 3 0 (by decide)) rfl (fun X => pay_ext X) rfl (out_at 3 1 (by decide)) rfl)) $$ G1 F1 HO HS
  iintro ⟨J1, K1, F1, HO, HS⟩
  iapply (cur3 (gin c m 1 (o := 1) (j := 2) rfl (by decide) (by decide) (by decide) (sem_at (rot c (1 : Fin 4).val) 2 (off15_eq c 1 (by decide))) (ag_at (rot c (1 : Fin 4).val) 2 (off16_eq c 1 (by decide))) rfl rfl)) $$ J1 K1 HS
  iintro ⟨G1, HS⟩
  iapply (cur4 (gproc c m 0 fullShare (x := (2, 0)) (z := (1, 1)) rfl (by decide) rfl rfl rfl (out_at 1 1 (by decide)) rfl (fun X => pay_ext X) rfl (out_at 2 0 (by decide)) rfl)) $$ G0 F0 HO HS
  iintro ⟨J0, K0, F0, HO, HS⟩
  iapply Hk
  isplitl [HS]; · iexact HS
  isplitl [J0]; · iexact J0
  isplitl [K0]; · iexact K0
  isplitl [G1]; · iexact G1
  isplitl [F0]; · iexact F0
  isplitl [F1]; · iexact F1
  iexact HO

end Cert.RingProof
-- ==== Proof.SegH.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- Gathered chunks of the middle quarters. -/
theorem segH {v2 v13 v24 v35 : BitVec 32} {Q : α → sProp 𝕄} {K : BitVec 32 → PT F α} :
    iprop(St m c 25 19 0 ∗ any F c (aginM 0) ∗ sv F c (dsem 70) ∗ GF c m fullShare 1 (1, 2) ∗ FO c m 0 (2, 0) ∗ FO c m 1 (3, 1) ∗ Op c m 9 7)
      ⊢ iprop((iprop(St m c 27 23 0 ∗ any F c (aginM 0) ∗ sv F c (dsem 70) ∗ GF c m fullShare.left 1 (3, 3) ∗ FO c m 0 (1, 3) ∗ FO c m 1 (2, 1) ∗ Op c m 13 11) -∗ wpp c (K 1#32) Q)
        -∗ wpp c (onA (k0_part50 (F := F)) c v13 >>= fun _ =>
          onA (k0_part51 (F := F)) c v2 v13 >>= fun _ =>
          onA (k0_part52 (F := F)) c v2 v24 >>= fun _ =>
          onA (k0_part53 (F := F)) c v35 >>= fun v1459 =>
          onA (k0_part54 (F := F)) c v2 v13 v1459 >>= fun _ =>
          onA (k0_part55 (F := F)) c v13 >>= fun w55 =>
          K w55) Q) := by
  simp only [onA, k0_part50_eq_skeleton, k0_part51_eq_skeleton, k0_part52_eq_skeleton, k0_part53_eq_skeleton, k0_part54_eq_skeleton, k0_part55_eq_skeleton]
  unfold k0_part50_skel k0_part51_skel k0_part52_skel k0_part53_skel k0_part54_skel k0_part55_skel
  simp only [Prog.lift, Prog.bind_op, Prog.bind_ret, Prog.pure_eq_ret]
  iintro ⟨HS, J0, K0, G1, F0, F1, HO⟩ Hk
  iapply (cur3 (ginRelay c m 0 (o := 3) (j := 2) rfl (by decide) (by decide) (by decide) rfl (by decide) rfl (sem_at (rot c (3 : Fin 4).val) 2 (off15_eq c 3 (by decide))) (ag_at (rot c (3 : Fin 4).val) 2 (off16_eq c 3 (by decide))) (ag_at (rot c (3 : Fin 4).val) 2 (off16_eq c 3 (by decide))) (dev26 c) rfl (sem_at (rot c (3 : Fin 4).val) 2 (off15_eq c 3 (by decide))) (ag_at (rot c (3 : Fin 4).val) 2 (off16_eq c 3 (by decide))) rfl rfl)) $$ J0 K0 HS
  iintro ⟨G0, HS⟩
  iapply (cur4 (gproc c m 1 fullShare (x := (1, 2)) (z := (3, 1)) rfl (by decide) rfl rfl rfl (out_at 3 1 (by decide)) rfl (fun X => pay_ext X) rfl (out_at 1 2 (by decide)) rfl)) $$ G1 F1 HO HS
  iintro ⟨J1, K1, F1, HO, HS⟩
  iapply (cur3 (gin c m 1 (o := 2) (j := 1) rfl (by decide) (by decide) (by decide) (sem_at (rot c (2 : Fin 4).val) 1 (off13_eq c 2 (by decide))) (ag_at (rot c (2 : Fin 4).val) 1 (off14_eq c 2 (by decide))) rfl rfl)) $$ J1 K1 HS
  iintro ⟨G1, HS⟩
  iapply (cur4 (gproc c m 0 fullShare.left (x := (3, 2)) (z := (2, 0)) rfl (by decide) rfl rfl rfl (out_at 2 0 (by decide)) rfl (fun X => pay_ext X) rfl (out_at 3 2 (by decide)) rfl)) $$ G0 F0 HO HS
  iintro ⟨J0, K0, F0, HO, HS⟩
  iapply (cur3 (gin c m 0 (o := 1) (j := 3) rfl (by decide) (by decide) (by decide) (sem_at (rot c (1 : Fin 4).val) 3 (off17_eq c 1 (by decide))) (ag_at (rot c (1 : Fin 4).val) 3 (off18_eq c 1 (by decide))) rfl rfl)) $$ J0 K0 HS
  iintro ⟨G0, HS⟩
  iapply (cur4 (gproc c m 1 fullShare (x := (2, 1)) (z := (1, 2)) rfl (by decide) rfl rfl rfl (out_at 1 2 (by decide)) rfl (fun X => pay_ext X) rfl (out_at 2 1 (by decide)) rfl)) $$ G1 F1 HO HS
  iintro ⟨J1, K1, F1, HO, HS⟩
  iapply (cur3 (ginRelay c m 1 (o := 3) (j := 3) rfl (by decide) (by decide) (by decide) rfl (by decide) rfl (sem_at (rot c (3 : Fin 4).val) 3 (off17_eq c 3 (by decide))) (ag_at (rot c (3 : Fin 4).val) 3 (off18_eq c 3 (by decide))) (ag_at (rot c (3 : Fin 4).val) 3 (off18_eq c 3 (by decide))) (dev27 c) rfl (sem_at (rot c (3 : Fin 4).val) 3 (off17_eq c 3 (by decide))) (ag_at (rot c (3 : Fin 4).val) 3 (off18_eq c 3 (by decide))) rfl rfl)) $$ J1 K1 HS
  iintro ⟨G1, HS⟩
  iapply (cur4 (gproc c m 0 fullShare (x := (1, 3)) (z := (3, 2)) rfl (by decide) rfl rfl rfl (out_at 3 2 (by decide)) rfl (fun X => pay_ext X) rfl (out_at 1 3 (by decide)) rfl)) $$ G0 F0 HO HS
  iintro ⟨J0, K0, F0, HO, HS⟩
  iapply Hk
  isplitl [HS]; · iexact HS
  isplitl [J0]; · iexact J0
  isplitl [K0]; · iexact K0
  isplitl [G1]; · iexact G1
  isplitl [F0]; · iexact F0
  isplitl [F1]; · iexact F1
  iexact HO

end Cert.RingProof
-- ==== Proof.SegI.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The last gathered chunks. -/
theorem segI {v2 v24 v35 w55 : BitVec 32} {Q : α → sProp 𝕄} {K : PT F α} :
    iprop(St m c 27 23 0 ∗ any F c (aginM 0) ∗ sv F c (dsem 70) ∗ GF c m fullShare.left 1 (3, 3) ∗ FO c m 0 (1, 3) ∗ FO c m 1 (2, 1) ∗ Op c m 13 11)
      ⊢ iprop((iprop(St m c 27 25 0 ∗ any F c (aginM 0) ∗ sv F c (dsem 70) ∗ any F c (aginM 1) ∗ sv F c (dsem 71) ∗ any F c (agoutM 0) ∗ sv F c (dsem 68)
          ∗ any F c (agoutM 1) ∗ sv F c (dsem 69) ∗ Op c m 16 16) -∗ wpp c K Q)
        -∗ wpp c (onA (k0_part56 (F := F)) c v2 w55 >>= fun v1541 =>
          onA (k0_part57 (F := F)) c v2 v24 v1541 >>= fun _ =>
          onA (k0_part58 (F := F)) c v35 >>= fun _ =>
          onA (k0_part59 (F := F)) c v35 >>= fun _ =>
          K) Q) := by
  simp only [onA, k0_part56_eq_skeleton, k0_part57_eq_skeleton, k0_part58_eq_skeleton, k0_part59_eq_skeleton]
  unfold k0_part56_skel k0_part57_skel k0_part58_skel k0_part59_skel
  simp only [Prog.lift, Prog.bind_op, Prog.bind_ret, Prog.pure_eq_ret]
  iintro ⟨HS, J0, K0, G1, F0, F1, HO⟩ Hk
  iapply (cur3 (gin c m 0 (o := 2) (j := 2) rfl (by decide) (by decide) (by decide) (sem_at (rot c (2 : Fin 4).val) 2 (off15_eq c 2 (by decide))) (ag_at (rot c (2 : Fin 4).val) 2 (off16_eq c 2 (by decide))) rfl rfl)) $$ J0 K0 HS
  iintro ⟨G0, HS⟩
  iapply (cur4 (gproc c m 1 fullShare.left (x := (3, 3)) (z := (2, 1)) rfl (by decide) rfl rfl rfl (out_at 2 1 (by decide)) rfl (fun X => pay_ext X) rfl (out_at 3 3 (by decide)) rfl)) $$ G1 F1 HO HS
  iintro ⟨J1, K1, F1, HO, HS⟩
  iapply (cur3 (gin c m 1 (o := 2) (j := 3) rfl (by decide) (by decide) (by decide) (sem_at (rot c (2 : Fin 4).val) 3 (off17_eq c 2 (by decide))) (ag_at (rot c (2 : Fin 4).val) 3 (off18_eq c 2 (by decide))) rfl rfl)) $$ J1 K1 HS
  iintro ⟨G1, HS⟩
  iapply (cur4 (gproc c m 0 fullShare (x := (2, 2)) (z := (1, 3)) rfl (by decide) rfl rfl rfl (out_at 1 3 (by decide)) rfl (fun X => pay_ext X) rfl (out_at 2 2 (by decide)) rfl)) $$ G0 F0 HO HS
  iintro ⟨J0, K0, F0, HO, HS⟩
  iapply (cur4 (gproc c m 1 fullShare (x := (2, 3)) (z := (3, 3)) rfl (by decide) rfl rfl rfl (out_at 3 3 (by decide)) rfl (fun X => pay_ext X) rfl (out_at 2 3 (by decide)) rfl)) $$ G1 F1 HO HS
  iintro ⟨J1, K1, F1, HO, HS⟩
  iapply (cur3 (wto c m 0 (x := (2, 2)) rfl (out_at 2 2 (by decide)) rfl)) $$ F0 HO HS
  iintro ⟨X0, Y0, HO, HS⟩
  iapply (cur3 (wto c m 1 (x := (2, 3)) rfl (out_at 2 3 (by decide)) rfl)) $$ F1 HO HS
  iintro ⟨X1, Y1, HO, HS⟩
  iapply Hk
  isplitl [HS]; · iexact HS
  isplitl [J0]; · iexact J0
  isplitl [K0]; · iexact K0
  isplitl [J1]; · iexact J1
  isplitl [K1]; · iexact K1
  isplitl [X0]; · iexact X0
  isplitl [Y0]; · iexact Y0
  isplitl [X1]; · iexact X1
  isplitl [Y1]; · iexact Y1
  iexact HO

end Cert.RingProof
-- ==== Proof.SegJ.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The scatter's first four transfers have left. -/
theorem segJ {Q : α → sProp 𝕄} {K : PT F α} :
    iprop(St m c 27 25 0)
      ⊢ iprop((St m c 27 25 4 -∗ wpp c K Q)
        -∗ wpp c (onA (k0_part60 (F := F)) c >>= fun _ =>
          K) Q) := by
  simp only [onA, k0_part60_eq_skeleton]
  unfold k0_part60_skel
  simp only [Prog.lift, Prog.bind_op, Prog.bind_ret, Prog.pure_eq_ret]
  iintro HS Hk
  iapply (sentDrop c m (x := (0, 3, 0)) rfl rfl (NB_eq _)) $$ HS
  iintro HS
  iapply (sentDrop c m (x := (0, 3, 1)) rfl rfl (NB_eq _)) $$ HS
  iintro HS
  iapply (sentDrop c m (x := (0, 3, 2)) rfl rfl (NB_eq _)) $$ HS
  iintro HS
  iapply (sentDrop c m (x := (0, 3, 3)) rfl rfl (NB_eq _)) $$ HS
  iintro HS
  iapply Hk
  iexact HS

end Cert.RingProof
-- ==== Proof.SegK.lean ====
module

public import proofs.«01_k».proof.Proof.Items

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

set_option maxRecDepth 65536 in
/-- The rest of the scatter and this device's own share of the gather have left. -/
theorem segK {Q : α → sProp 𝕄} {K : PT F α} :
    iprop(St m c 27 25 4)
      ⊢ iprop((iprop(St m c 27 25 20 ∗ any F c (rowsM A11 0) ∗ any F c (rowsM A11 1) ∗ any F c (rowsM A11 2) ∗ any F c (rowsM A11 3)) -∗ wpp c K Q)
        -∗ wpp c (onA (k0_part61 (F := F)) c >>= fun _ =>
          onA (k0_part62 (F := F)) c >>= fun _ =>
          onA (k0_part63 (F := F)) c >>= fun _ =>
          onA (k0_part64 (F := F)) c >>= fun _ =>
          K) Q) := by
  simp only [onA, k0_part61_eq_skeleton, k0_part62_eq_skeleton, k0_part63_eq_skeleton, k0_part64_eq_skeleton]
  unfold k0_part61_skel k0_part62_skel k0_part63_skel k0_part64_skel
  simp only [Prog.lift, Prog.bind_op, Prog.bind_ret, Prog.pure_eq_ret]
  iintro HS Hk
  iapply (sentDrop c m (x := (0, 2, 0)) rfl rfl (NB_eq _)) $$ HS
  iintro HS
  iapply (sentDrop c m (x := (0, 2, 1)) rfl rfl (NB_eq _)) $$ HS
  iintro HS
  iapply (sentDrop c m (x := (0, 1, 2)) rfl rfl (NB_eq _)) $$ HS
  iintro HS
  iapply (sentDrop c m (x := (0, 1, 3)) rfl rfl (NB_eq _)) $$ HS
  iintro HS
  iapply (sentDrop c m (x := (0, 1, 0)) rfl rfl (NB_eq _)) $$ HS
  iintro HS
  iapply (sentDrop c m (x := (0, 1, 1)) rfl rfl (NB_eq _)) $$ HS
  iintro HS
  iapply (sentDrop c m (x := (0, 2, 2)) rfl rfl (NB_eq _)) $$ HS
  iintro HS
  iapply (sentDrop c m (x := (0, 2, 3)) rfl rfl (NB_eq _)) $$ HS
  iintro HS
  iapply (sentRows c m (j := 0) rfl rfl rfl (NB_rows _) rfl (NB_rows _)) $$ HS
  iintro ⟨L0, HS⟩
  iapply (sentRows c m (j := 1) rfl rfl rfl (NB_rows _) rfl (NB_rows _)) $$ HS
  iintro ⟨L1, HS⟩
  iapply (sentRows c m (j := 2) rfl rfl rfl (NB_rows _) rfl (NB_rows _)) $$ HS
  iintro ⟨L2, HS⟩
  iapply (sentRows c m (j := 3) rfl rfl rfl (NB_rows _) rfl (NB_rows _)) $$ HS
  iintro ⟨L3, HS⟩
  iapply Hk
  isplitl [HS]; · iexact HS
  isplitl [L0]; · iexact L0
  isplitl [L1]; · iexact L1
  isplitl [L2]; · iexact L2
  iexact L3

end Cert.RingProof
-- ==== Proof.Cut.lean ====
module

public import proofs.«01_k».proof.Proof.Blocks

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

/-! ## Arrays cut into chunks -/

theorem d8 (t t' : Fin 4 × Fin 4) (h : t ≠ t') : Disjoint (r8 t.1 t.2).set (r8 t'.1 t'.2).set := by
  rw [Finset.disjoint_left]
  intro x hx hx'
  rw [Rect.mem_set_unit] at hx hx'
  have h1 := hx 0; have h2 := hx' 0
  simp only [Matrix.cons_val_zero, show S512x2048.size 0 = 512 from rfl] at h1 h2
  exact h (Prod.ext (Fin.ext (by omega)) (Fin.ext (by omega)))

theorem d4 (t t' : Fin 4 × Fin 4) (h : t ≠ t') : Disjoint (r4 t.1 t.2).set (r4 t'.1 t'.2).set := by
  rw [Finset.disjoint_left]
  intro x hx hx'
  rw [Rect.mem_set_unit] at hx hx'
  have h1 := hx 0; have h2 := hx' 0; have h3 := hx 1; have h4 := hx' 1
  simp only [Matrix.cons_val_zero, Matrix.cons_val_one, show S1x512x2048.size 0 = 1 from rfl, show S1x512x2048.size 1 = 512 from rfl] at h1 h2 h3 h4
  exact h (Prod.ext (Fin.ext (by omega)) (Fin.ext (by omega)))

theorem d1 (t t' : Fin 4) (h : t ≠ t') : Disjoint (r1 t).set (r1 t').set := by
  rw [Finset.disjoint_left]
  intro x hx hx'
  rw [Rect.mem_set_unit] at hx hx'
  have h1 := hx 0; have h2 := hx' 0
  simp only [Matrix.cons_val_zero, show S512x2048.size 0 = 512 from rfl] at h1 h2
  exact h (Fin.ext (by omega))

theorem d2 (t t' : Fin 2) (h : t ≠ t') : Disjoint (r2 t).set (r2 t').set := by
  rw [Finset.disjoint_left]
  intro x hx hx'
  rw [Rect.mem_set_unit] at hx hx'
  have h1 := hx 0; have h2 := hx' 0
  simp only [Matrix.cons_val_zero, show S1x512x2048.size 0 = 1 from rfl] at h1 h2
  exact h (Fin.ext (by omega))

theorem mem8 (x : S8192x2048.Idx) : ∃ b j, x ∈ (r8 b j).set := by
  have hx : (x 0).val < 8192 := (x 0).isLt
  have hy : (x 1).val < 2048 := (x 1).isLt
  refine ⟨⟨(x 0).val / 2048, by omega⟩, ⟨(x 0).val % 2048 / 512, by omega⟩, ?_⟩
  rw [Rect.mem_set_unit, Fin.forall_fin_two]
  simp only [Matrix.cons_val_zero, Matrix.cons_val_one, show S512x2048.size 0 = 512 from rfl, show S512x2048.size 1 = 2048 from rfl]
  omega

theorem mem1 (x : S2048x2048.Idx) : ∃ j, x ∈ (r1 j).set := by
  have hx : (x 0).val < 2048 := (x 0).isLt
  have hy : (x 1).val < 2048 := (x 1).isLt
  refine ⟨⟨(x 0).val / 512, by omega⟩, ?_⟩
  rw [Rect.mem_set_unit, Fin.forall_fin_two]
  simp only [Matrix.cons_val_zero, Matrix.cons_val_one, show S512x2048.size 0 = 512 from rfl, show S512x2048.size 1 = 2048 from rfl]
  omega

theorem mem4 (x : S4x2048x2048.Idx) : ∃ s j, x ∈ (r4 s j).set := by
  have h0 : (x 0).val < 4 := (x 0).isLt
  have hx : (x 1).val < 2048 := (x 1).isLt
  have hy : (x 2).val < 2048 := (x 2).isLt
  refine ⟨⟨(x 0).val, h0⟩, ⟨(x 1).val / 512, by omega⟩, ?_⟩
  refine Rect.mem_set_unit.mpr fun a => ?_
  match a with
  | 0 => exact ⟨Nat.le_refl _, Nat.lt_succ_self _⟩
  | 1 => show 512 * ((x 1).val / 512) ≤ (x 1).val ∧ (x 1).val < 512 * ((x 1).val / 512) + 512; omega
  | 2 => show 0 ≤ (x 2).val ∧ (x 2).val < 0 + 2048; omega

theorem mem2 (x : S2x512x2048.Idx) : ∃ i, x ∈ (r2 i).set := by
  have h0 : (x 0).val < 2 := (x 0).isLt
  have hx : (x 1).val < 512 := (x 1).isLt
  have hy : (x 2).val < 2048 := (x 2).isLt
  refine ⟨⟨(x 0).val, h0⟩, ?_⟩
  refine Rect.mem_set_unit.mpr fun a => ?_
  match a with
  | 0 => exact ⟨Nat.le_refl _, Nat.lt_succ_self _⟩
  | 1 => show 0 ≤ (x 1).val ∧ (x 1).val < 0 + 512; omega
  | 2 => show 0 ≤ (x 2).val ∧ (x 2).val < 0 + 2048; omega

theorem cov_of {T : Type} [Fintype T] {s : Shape} (r : T → Rect s) (h : ∀ x, ∃ t, x ∈ (r t).set) :
    (Finset.univ : Finset T).biUnion (fun t => (r t).set) = Finset.univ := by
  ext x; simp only [Finset.mem_biUnion, Finset.mem_univ, true_and, iff_true]; exact h x

theorem c8 : (Finset.univ : Finset (Fin 4 × Fin 4)).biUnion (fun t => (r8 t.1 t.2).set) = Finset.univ :=
  cov_of _ fun x => by obtain ⟨b, j, h⟩ := mem8 x; exact ⟨(b, j), h⟩
theorem c4 : (Finset.univ : Finset (Fin 4 × Fin 4)).biUnion (fun t => (r4 t.1 t.2).set) = Finset.univ :=
  cov_of _ fun x => by obtain ⟨b, j, h⟩ := mem4 x; exact ⟨(b, j), h⟩
theorem c1 : (Finset.univ : Finset (Fin 4)).biUnion (fun t => (r1 t).set) = Finset.univ := cov_of _ mem1
theorem c2 : (Finset.univ : Finset (Fin 2)).biUnion (fun t => (r2 t).set) = Finset.univ := cov_of _ mem2

/-- Two contents that read the same on every chunk are the same. -/
theorem eq8 {e : EltTy} {f g : S8192x2048.Idx → Elt F e} (h : ∀ b j (y : S512x2048.Idx), f ((r8 b j).emb y) = g ((r8 b j).emb y)) : f = g := by
  funext x
  obtain ⟨b, j, hx⟩ := mem8 x
  rw [← Rect.map_emb_univ, Finset.mem_map] at hx
  obtain ⟨y, -, rfl⟩ := hx
  exact h b j y

theorem eq1 {e : EltTy} {f g : S2048x2048.Idx → Elt F e} (h : ∀ j (y : S512x2048.Idx), f ((r1 j).emb y) = g ((r1 j).emb y)) : f = g := by
  funext x
  obtain ⟨j, hx⟩ := mem1 x
  rw [← Rect.map_emb_univ, Finset.mem_map] at hx
  obtain ⟨y, -, rfl⟩ := hx
  exact h j y

/-! ## Owning the chunks -/

instance elt_nonempty (e : EltTy) : Nonempty (Elt F e) := by
  cases e
  all_goals first | exact ⟨(0 : BitVec _)⟩ | exact ⟨FloatOps.ofBits (F := F) _ 0⟩

section Cut

variable {sp : Space} {sh : Shape} {e : EltTy} (A : Memref sig .tc sp sh e) {T : Type} [Fintype T] [DecidableEq T]
  (r : T → Rect sh) (hr : ∀ t a, (r t).stride a = 1) (hd : ∀ t t', t ≠ t' → Disjoint (r t).set (r t').set)
  (hcov : (Finset.univ : Finset T).biUnion (fun t => (r t).set) = Finset.univ)
include hd hcov

/-- A memref is its chunks, at whatever contents; -/
theorem any_cut : any F c A ⊢ bigSep Finset.univ fun t => any F c (A.slice (r t) (hr t)) := by
  rw [any]
  iintro ⟨%Y, H⟩
  ihave H := (owns_rects (c : Thread nD τ) A fullShare r hr hd hcov Y) $$ H
  have h : (bigSep Finset.univ fun t => owns (c : Thread nD τ) (A.slice (r t) (hr t)) fullShare (fun j => Y ((r t).emb j)))
      ⊢ (bigSep Finset.univ fun t => any F c (A.slice (r t) (hr t)) : sProp 𝕄) := bigSep_mono fun t _ =>
    (show owns _ _ _ _ ⊢ any F c _ from by unfold any; iintro H; iexists _; iexact H)
  iapply h
  iexact H

/-- and back. -/
theorem any_join : (bigSep Finset.univ fun t => any F c (A.slice (r t) (hr t))) ⊢ any F c A := by
  unfold any
  refine (bigSep_exists_pi Finset.univ _).trans ?_
  iintro ⟨%Y, H⟩
  iexists Rect.glue r hcov Y
  iapply (owns_of_rects (c : Thread nD τ) A fullShare r hr hd hcov (Rect.glue r hcov Y))
  have e : (fun t => owns (c : Thread nD τ) (A.slice (r t) (hr t)) fullShare (fun j => Rect.glue r hcov Y ((r t).emb j)) : T → sProp 𝕄)
      = fun t => owns (c : Thread nD τ) (A.slice (r t) (hr t)) fullShare (Y t) := by
    funext t; congr 1; funext j; exact Rect.glue_emb r hcov hd Y t j
  rw [e]
  iexact H

end Cut

/-- A chunk with its row dropped is the chunk. -/
theorem any_sq {sp : Space} {e : EltTy} (v : Memref sig .tc sp S1x512x2048 e) : any F c v ⊢ any F c (v.squeeze S512x2048 sqz) := by
  unfold any owns
  iintro ⟨%Y, %f, %hf, H⟩
  have e2 : (v.squeeze S512x2048 sqz).view.set = v.view.set := View.set_reshape _ _
  iexists _; iexists f; isplitr
  · ipureintro; rfl
  · rw [e2]; iexact H

theorem any_usq {sp : Space} {e : EltTy} (v : Memref sig .tc sp S1x512x2048 e) : any F c (v.squeeze S512x2048 sqz) ⊢ any F c v := by
  unfold any owns
  iintro ⟨%Y, %f, %hf, H⟩
  have e2 : (v.squeeze S512x2048 sqz).view.set = v.view.set := View.set_reshape _ _
  iexists _; iexists f; isplitr
  · ipureintro; rfl
  · rw [← e2]; iexact H

/-- A whole buffer is its memref, at whatever contents. -/
theorem any_of_whole (b : Ref sig .tc) (f : Buf (Elt F) ((c : Thread nD τ).loc b)) :
    ((c : Thread nD τ).loc b ↦{fullShare} f) ⊢ any F c (Memref.whole b) := by
  unfold any
  iintro H
  iexists f
  rw [owns_whole (c : Thread nD τ) b fullShare f]
  iexact H

theorem any_to_whole (b : Ref sig .tc) : any F c (Memref.whole b) ⊢ iprop(∃ f, (c : Thread nD τ).loc b ↦{fullShare} f) := by
  unfold any
  iintro ⟨%f, H⟩
  iexists f
  rw [← owns_whole (c : Thread nD τ) b fullShare f]
  iexact H

/-- The two slots of a double buffer. -/
theorem slots_cut {e : EltTy} (A : Memref sig .tc .vmem S2x512x2048 e) : any F c A ⊢ iprop(any F c (slotM A 0) ∗ any F c (slotM A 1)) := by
  refine (any_cut c A r2 (fun _ _ => rfl) d2 c2).trans ?_
  rw [bigSep_eq_bigSepL_of_eq [0, 1] (by decide) (by decide), bigSepL_cons', bigSepL_singleton]
  exact BI.sep_mono (any_sq c _) (any_sq c _)

theorem slots_join {e : EltTy} (A : Memref sig .tc .vmem S2x512x2048 e) : iprop(any F c (slotM A 0) ∗ any F c (slotM A 1)) ⊢ any F c A := by
  refine BI.Entails.trans ?_ (any_join c A r2 (fun _ _ => rfl) d2 c2)
  rw [bigSep_eq_bigSepL_of_eq [0, 1] (by decide) (by decide), bigSepL_cons', bigSepL_singleton]
  exact BI.sep_mono (any_usq c _) (any_usq c _)

/-- The rows of a matrix, chunk by chunk. -/
theorem rows_cut {e : EltTy} (A : Memref sig .tc .vmem S2048x2048 e) : any F c A ⊢ bigSepL jl fun j => any F c (rowsM A j) := by
  refine (any_cut c A r1 (fun _ _ => rfl) d1 c1).trans ?_
  rw [bigSep_eq_bigSepL_of_eq jl (by decide) (by decide)]

theorem rows_join {e : EltTy} (A : Memref sig .tc .vmem S2048x2048 e) : (bigSepL jl fun j => any F c (rowsM A j)) ⊢ any F c A := by
  have h := any_join (F := F) c A r1 (fun _ _ => rfl) d1 c1
  rw [bigSep_eq_bigSepL_of_eq jl (by decide) (by decide)] at h
  exact h

/-- The weights in half precision, chunk by chunk, are the whole. -/
theorem w16_join : W16 c m 4 ⊢ iprop((c : Thread nD τ).loc cc0_scratch3 ↦{fullShare} (w16V m c : S2048x2048.Idx → Elt F .bf16)) := by
  have h : _ ⊢ (owns (c : Thread nD τ) A9 fullShare (w16V m c : S2048x2048.Idx → Elt F .bf16) : sProp 𝕄) := owns_of_rects (c : Thread nD τ) A9 fullShare r1 (fun _ _ => rfl) d1 c1 (w16V m c : S2048x2048.Idx → Elt F .bf16)
  rw [bigSep_eq_bigSepL_of_eq jl (by decide) (by decide), owns_whole (c : Thread nD τ) cc0_scratch3 fullShare (w16V m c)] at h
  refine BI.Entails.trans ?_ h
  unfold W16 Rp Pool
  rw [show jl.drop 4 = [] from rfl, show jl.take 4 = jl from rfl, bigSepL_nil]
  exact emp_sep.1

end Cert.RingProof
-- ==== Proof.Body.lean ====
module

public import proofs.«01_k».proof.Proof.SegB
public import proofs.«01_k».proof.Proof.SegC
public import proofs.«01_k».proof.Proof.SegD
public import proofs.«01_k».proof.Proof.SegE
public import proofs.«01_k».proof.Proof.SegF
public import proofs.«01_k».proof.Proof.SegG
public import proofs.«01_k».proof.Proof.SegH
public import proofs.«01_k».proof.Proof.SegI
public import proofs.«01_k».proof.Proof.SegJ
public import proofs.«01_k».proof.Proof.SegK
public import proofs.«01_k».proof.Proof.Cut

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

/-- The whole of the weights in half precision. -/
def W16w : sProp 𝕄 := iprop((c : Thread nD τ).loc cc0_scratch3 ↦{fullShare} (w16V m c : S2048x2048.Idx → Elt F .bf16))

/-- What the body's local copies run on: the slots of the double buffers and their semaphores. -/
def slots : sProp 𝕄 :=
  iprop((any F c (cinM 0) ∗ sv F c (dsem 64) ∗ any F c (cinM 1) ∗ sv F c (dsem 65))
    ∗ (any F c (coutM 0) ∗ sv F c (dsem 66) ∗ any F c (coutM 1) ∗ sv F c (dsem 67))
    ∗ (any F c (sumM 0) ∗ any F c (sumM 1))
    ∗ (any F c (aginM 0) ∗ sv F c (dsem 70) ∗ any F c (aginM 1) ∗ sv F c (dsem 71))
    ∗ (any F c (agoutM 0) ∗ sv F c (dsem 68) ∗ any F c (agoutM 1) ∗ sv F c (dsem 69)))

/-- The places the three signals of the barrier hand over. -/
def gifts : sProp 𝕄 := iprop(barPay F (rot c (toOff (2, 1, 0))) (remD (2, 1, 0)) ∗ barPay F (rot c (toOff (2, 2, 0))) (remD (2, 2, 0)) ∗ barPay F (rot c (toOff (2, 3, 0))) (remD (2, 3, 0)))

set_option maxRecDepth 65536 in
set_option maxHeartbeats 4000000 in
/-- The body up to its last sends. -/
theorem part65_sound :
    iprop(gifts (F := F) c ∗ St m c 0 0 0 ∗ Tp c m 0 0 ∗ Wp c m 0 0 ∗ Op c m 0 0 ∗ Ep F c 0 ∗ Own c m 0 ∗ W16 c m 0 ∗ Yp F c 0 ∗ slots (F := F) c)
      ⊢ wpp c (onA (k0_part65 (F := F))) (fun d => iprop(⌜d = c⌝ ∗ St m c 27 25 4 ∗ Tp c m 16 16 ∗ Wp c m 4 4 ∗ Op c m 16 16 ∗ OwnQ c m 4 ∗ W16w c m ∗ slots (F := F) c)) := by
  unfold onA k0_part65
  simp only [k0_part1_eq_skeleton, k0_part2_eq_skeleton, k0_part3_eq_skeleton]
  unfold k0_part1_skel k0_part2_skel k0_part3_skel
  unfold gifts slots semSignalWord semWaitWord
  simp only [Prog.lift, Prog.bind_op, Prog.bind_ret, Prog.pure_eq_ret]
  unfold wpp
  rw [wp_deviceId]
  iintro ⟨⟨HB1, HB2, HB3⟩, HS, HT, HW, HO, HE, HOw, HR, HY, ⟨I0, V4, I1, V5⟩, ⟨C0, V6, C1, V7⟩, ⟨U0, U1⟩, ⟨G0, V0, G1, V1⟩, ⟨B0, V8, B1, V9⟩⟩
  iapply (signal_step c m (n := 0) (x := (2, 1, 0)) rfl rfl (by decide) (congrArg Dev.tc (dev1 c)) rfl rfl) $$ [HB1 HS]
  · isplitl [HB1]; · iexact HB1
    iexact HS
  iintro HS
  iapply (signal_step c m (n := 1) (x := (2, 2, 0)) rfl rfl (by decide) (congrArg Dev.tc (dev2 c)) rfl rfl) $$ [HB2 HS]
  · isplitl [HB2]; · iexact HB2
    iexact HS
  iintro HS
  iapply (signal_step c m (n := 2) (x := (2, 3, 0)) rfl rfl (by decide) (congrArg Dev.tc (dev3 c)) rfl rfl) $$ [HB3 HS]
  · isplitl [HB3]; · iexact HB3
    iexact HS
  iintro HS
  iapply (bar_step c m rfl rfl) $$ HS
  iintro HS
  iapply (ldt c m 64 0 (x := (2, 0)) rfl (t_at 2 0 (by decide)) rfl rfl) $$ HT I0 V4
  iintro ⟨I0, HT⟩
  iapply (ldt c m 65 1 (x := (2, 1)) rfl (t_at 2 1 (by decide)) rfl rfl) $$ HT I1 V5
  iintro ⟨I1, HT⟩
  iapply (wlt c m 64 0 (x := (2, 0)) rfl rfl rfl) $$ I0 HT HS
  iintro ⟨I0, V4, HT, HS⟩
  iapply (segB c m) $$ [HS HT I0 V4 I1 C0 V6 C1 V7 HE]
  · isplitl [HS]; · iexact HS
    isplitl [HT]; · iexact HT
    isplitl [I0]; · iexact I0
    isplitl [V4]; · iexact V4
    isplitl [I1]; · iexact I1
    isplitl [C0]; · iexact C0
    isplitl [V6]; · iexact V6
    isplitl [C1]; · iexact C1
    isplitl [V7]; · iexact V7
    iexact HE
  iintro ⟨HS, HT, I0, I1, V5, C0, C1, HE⟩
  iapply (segC c m (x3 := 0#32)) $$ [HS HT HW I0 I1 V5 HOw HR C0 C1]
  · isplitl [HS]; · iexact HS
    isplitl [HT]; · iexact HT
    isplitl [HW]; · iexact HW
    isplitl [I0]; · iexact I0
    isplitl [I1]; · iexact I1
    isplitl [V5]; · iexact V5
    isplitl [HOw]; · iexact HOw
    isplitl [HR]; · iexact HR
    isplitl [C0]; · iexact C0
    iexact C1
  iintro ⟨HS, HT, HW, I0, V4, I1, V5, HOw, HR, C0, D0, V6, C1⟩
  iapply (segD c m) $$ [HS HT I0 V4 V5 U0 C0 D0 V6 C1 HE]
  · isplitl [HS]; · iexact HS
    isplitl [HT]; · iexact HT
    isplitl [I0]; · iexact I0
    isplitl [V4]; · iexact V4
    isplitl [V5]; · iexact V5
    isplitl [U0]; · iexact U0
    isplitl [C0]; · iexact C0
    isplitl [D0]; · iexact D0
    isplitl [V6]; · iexact V6
    isplitl [C1]; · iexact C1
    iexact HE
  iintro ⟨HS, HT, I0, V4, V5, U0, D0, V6, D1, V7⟩
  ihave HOw := (own_done c m) $$ HOw
  ihave HR := (w16_join c m) $$ HR
  unfold W16w
  iapply (segE c m) $$ [HS U0 U1 V4 V5 HOw HR HY B0 V8 B1 V9 HO]
  · isplitl [HS]; · iexact HS
    isplitl [U0]; · iexact U0
    isplitl [U1]; · iexact U1
    isplitl [V4]; · iexact V4
    isplitl [V5]; · iexact V5
    isplitl [HOw HR]
    · isplitl [HOw]; · iexact HOw
      iexact HR
    isplitl [HY]; · iexact HY
    isplitl [B0]; · iexact B0
    isplitl [V8]; · iexact V8
    isplitl [B1]; · iexact B1
    isplitl [V9]; · iexact V9
    iexact HO
  iintro ⟨HS, U0, U1, V4, V5, HOw, HY, B0, B1, HO⟩
  iapply (segF c m) $$ [HS U0 U1 V4 V5 HOw HY B0 B1 HO G0 V0 G1 V1]
  · isplitl [HS]; · iexact HS
    isplitl [U0]; · iexact U0
    isplitl [U1]; · iexact U1
    isplitl [V4]; · iexact V4
    isplitl [V5]; · iexact V5
    isplitl [HOw]; · iexact HOw
    isplitl [HY]; · iexact HY
    isplitl [B0]; · iexact B0
    isplitl [B1]; · iexact B1
    isplitl [HO]; · iexact HO
    isplitl [G0]; · iexact G0
    isplitl [V0]; · iexact V0
    isplitl [G1]; · iexact G1
    iexact V1
  iintro ⟨HS, U0, U1, V4, V5, HOw, G0, V0, G1, B0, B1, HO⟩
  iapply (segG c m) $$ [HS G0 V0 G1 B0 B1 HO]
  · isplitl [HS]; · iexact HS
    isplitl [G0]; · iexact G0
    isplitl [V0]; · iexact V0
    isplitl [G1]; · iexact G1
    isplitl [B0]; · iexact B0
    isplitl [B1]; · iexact B1
    iexact HO
  iintro ⟨HS, G0, V0, G1, B0, B1, HO⟩
  iapply (segH c m) $$ [HS G0 V0 G1 B0 B1 HO]
  · isplitl [HS]; · iexact HS
    isplitl [G0]; · iexact G0
    isplitl [V0]; · iexact V0
    isplitl [G1]; · iexact G1
    isplitl [B0]; · iexact B0
    isplitl [B1]; · iexact B1
    iexact HO
  iintro ⟨HS, G0, V0, G1, B0, B1, HO⟩
  iapply (segI c m) $$ [HS G0 V0 G1 B0 B1 HO]
  · isplitl [HS]; · iexact HS
    isplitl [G0]; · iexact G0
    isplitl [V0]; · iexact V0
    isplitl [G1]; · iexact G1
    isplitl [B0]; · iexact B0
    isplitl [B1]; · iexact B1
    iexact HO
  iintro ⟨HS, G0, V0, G1, V1, B0, V8, B1, V9, HO⟩
  iapply (segJ c m) $$ HS
  iintro HS
  icases HOw with ⟨HOw, HR⟩
  iapply (le_wp_ret _ _ _ _ _)
  isplitr; · ipureintro; rfl
  isplitl [HS]; · iexact HS
  isplitl [HT]; · iexact HT
  isplitl [HW]; · iexact HW
  isplitl [HO]; · iexact HO
  isplitl [HOw]; · iexact HOw
  isplitl [HR]; · iexact HR
  isplitl [I0 V4 I1 V5]
  · isplitl [I0]; · iexact I0
    isplitl [V4]; · iexact V4
    isplitl [I1]; · iexact I1
    iexact V5
  isplitl [D0 V6 D1 V7]
  · isplitl [D0]; · iexact D0
    isplitl [V6]; · iexact V6
    isplitl [D1]; · iexact D1
    iexact V7
  isplitl [U0 U1]
  · isplitl [U0]; · iexact U0
    iexact U1
  isplitl [G0 V0 G1 V1]
  · isplitl [G0]; · iexact G0
    isplitl [V0]; · iexact V0
    isplitl [G1]; · iexact G1
    iexact V1
  isplitl [B0]; · iexact B0
  isplitl [V8]; · iexact V8
  isplitl [B1]; · iexact B1
  iexact V9

set_option maxRecDepth 65536 in
/-- The body, from the launch's resources to every transfer sent and every place back. -/
theorem body_sound :
    iprop(gifts (F := F) c ∗ St m c 0 0 0 ∗ Tp c m 0 0 ∗ Wp c m 0 0 ∗ Op c m 0 0 ∗ Ep F c 0 ∗ Own c m 0 ∗ W16 c m 0 ∗ Yp F c 0 ∗ slots (F := F) c)
      ⊢ wpp c (onA (cc0_body (F := F))) (fun _ => iprop(St m c 27 25 24 ∗ Tp c m 16 16 ∗ Wp c m 4 4 ∗ Op c m 16 16 ∗ OwnQ c m 4 ∗ W16w c m
          ∗ bigSepL jl (fun j => any F c (rowsM A11 j)) ∗ slots (F := F) c)) := by
  unfold onA cc0_body
  simp only [Prog.lift, Prog.bind_op, Prog.bind_ret, Prog.pure_eq_ret]
  unfold wpp
  rw [wp_bind]
  refine (part65_sound c m).trans (wp_mono _ _ _ fun d => ?_)
  iintro ⟨%hd, HS, HT, HW, HO, HOw, HR, HL⟩
  rw [hd]
  iapply (segK c m) $$ HS
  iintro ⟨HS, Y0, Y1, Y2, Y3⟩
  iapply (sentDrop c m (x := (1, 3, 0)) rfl rfl (NB_eq _)) $$ HS
  iintro HS
  iapply (sentDrop c m (x := (1, 3, 1)) rfl rfl (NB_eq _)) $$ HS
  iintro HS
  iapply (sentDrop c m (x := (1, 3, 2)) rfl rfl (NB_eq _)) $$ HS
  iintro HS
  iapply (sentDrop c m (x := (1, 3, 3)) rfl rfl (NB_eq _)) $$ HS
  iintro HS
  iapply (le_wp_ret _ _ _ _ _)
  isplitl [HS]; · iexact HS
  isplitl [HT]; · iexact HT
  isplitl [HW]; · iexact HW
  isplitl [HO]; · iexact HO
  isplitl [HOw]; · iexact HOw
  isplitl [HR]; · iexact HR
  isplitl [Y0 Y1 Y2 Y3]
  · unfold jl
    rw [bigSepL_cons', bigSepL_cons', bigSepL_cons', bigSepL_singleton]
    isplitl [Y0]; · iexact Y0
    isplitl [Y1]; · iexact Y1
    isplitl [Y2]; · iexact Y2
    iexact Y3
  iexact HL

end Cert.RingProof
-- ==== Proof.Split.lean ====
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable {α : Type} (c : Dev nD) (m : (ℓ : Loc nD τ sig) → Buf (Elt F) ℓ)

/-! ## The arrays in memory, cut into the body's pieces -/

/-- Part of a family, listed. -/
theorem bigSepL_of_all {I : Type} [Fintype I] [DecidableEq I] (l : List I) (hl : l.Nodup) (Φ : I → sProp 𝕄) : bigSep Finset.univ Φ ⊢ bigSepL l Φ := by
  rw [← bigSep_eq_bigSepL_of_eq l rfl hl Φ]
  exact bigSep_subset (Finset.subset_univ _)

/-- A chunk's block and number on the device that lists it by its place round the ring. -/
def blk8 (c : Dev nD) (x : RJ) : Fin 4 × Fin 4 := (rot c x.1.val, x.2)

theorem tl_nodup : ∀ c : Dev nD, (tl.map (blk8 c)).Nodup := by decide
theorem ol_nodup : ∀ c : Dev nD, (ol.map (blk8 c)).Nodup := by decide
theorem el_nodup : ∀ c : Dev nD, (el.map (blk8 c)).Nodup := by decide

theorem pool_start {I : Type} (l : List I) (P P' : I → sProp 𝕄) : bigSepL l P ⊢ Pool l P P' 0 0 := by
  unfold Pool
  rw [show l.drop 0 = l from rfl, show l.take 0 = [] from rfl, bigSepL_nil]
  exact BI.sep_emp_intro

/-- The first argument in chunks. -/
theorem t_cut : ((c : Thread nD τ).loc main_arg0 ↦{fullShare} m ((c : Thread nD τ).loc main_arg0)) ⊢ Tp c m 0 0 := by
  have h : (owns (c : Thread nD τ) A0 fullShare (m ((c : Thread nD τ).loc main_arg0) : S8192x2048.Idx → Elt F .f32) : sProp 𝕄) ⊢ _ :=
    owns_rects (c : Thread nD τ) A0 fullShare (fun t : Fin 4 × Fin 4 => r8 t.1 t.2) (fun _ _ => rfl) d8 c8 (m ((c : Thread nD τ).loc main_arg0) : S8192x2048.Idx → Elt F .f32)
  rw [owns_whole (c : Thread nD τ) main_arg0 fullShare (m ((c : Thread nD τ).loc main_arg0))] at h
  refine h.trans ((bigSepL_of_all (tl.map (blk8 c)) (tl_nodup c) _).trans ?_)
  rw [bigSepL_map]
  exact pool_start _ _ _

/-- The weights in chunks. -/
theorem w_cut : ((c : Thread nD τ).loc main_arg1 ↦{fullShare} m ((c : Thread nD τ).loc main_arg1)) ⊢ Wp c m 0 0 := by
  have h : (owns (c : Thread nD τ) A1 fullShare (m ((c : Thread nD τ).loc main_arg1) : S2048x2048.Idx → Elt F .f32) : sProp 𝕄) ⊢ _ :=
    owns_rects (c : Thread nD τ) A1 fullShare r1 (fun _ _ => rfl) d1 c1 (m ((c : Thread nD τ).loc main_arg1) : S2048x2048.Idx → Elt F .f32)
  rw [owns_whole (c : Thread nD τ) main_arg1 fullShare (m ((c : Thread nD τ).loc main_arg1))] at h
  refine h.trans ((bigSepL_of_all jl (by decide) _).trans ?_)
  exact pool_start _ _ _

/-- The result in chunks. -/
theorem o_cut (f : Buf (Elt F) ((c : Thread nD τ).loc main_v1_0)) : ((c : Thread nD τ).loc main_v1_0 ↦{fullShare} f) ⊢ Op c m 0 0 := by
  refine (any_of_whole c main_v1_0 f).trans ((any_cut c A2 (fun t : Fin 4 × Fin 4 => r8 t.1 t.2) (fun _ _ => rfl) d8 c8).trans
    ((bigSepL_of_all (ol.map (blk8 c)) (ol_nodup c) _).trans ?_))
  rw [bigSepL_map]
  exact pool_start _ _ _

/-- The narrowed copy in chunks. -/
theorem e_cut (f : Buf (Elt F) ((c : Thread nD τ).loc main_v1_3)) : ((c : Thread nD τ).loc main_v1_3 ↦{fullShare} f) ⊢ Ep F c 0 := by
  refine (any_of_whole c main_v1_3 f).trans ((any_cut c A5 (fun t : Fin 4 × Fin 4 => r8 t.1 t.2) (fun _ _ => rfl) d8 c8).trans
    ((bigSepL_of_all (el.map (blk8 c)) (el_nodup c) _).trans ?_))
  rw [bigSepL_map]
  exact pool_start _ _ _

/-! ## The places others write -/

/-- The places device `rot c k` writes on the device `r` further round, -/
def spotsOf (c : Dev nD) (k r : ℕ) : List Spot := (sends.filter fun x => decide (toOff x = r)).map (spotTo (rot c k))

theorem spots_nodup : ∀ c : Dev nD, (spotsOf c 1 3 ++ (spotsOf c 2 2 ++ spotsOf c 3 1)).Nodup := by decide

/-- are what the signal to it hands over. -/
theorem gift (k : ℕ) (r : Fin 4) (hk : k + r.val = 4) : bigSepL (spotsOf c k r.val) (fun s => any F c (spotM s)) ⊢ barPay F (rot c k) r := by
  unfold spotsOf barPay
  rw [bigSepL_map]
  refine bigSepL_mono fun x hx => ?_
  have h : toOff x = r.val := of_decide_eq_true (List.mem_filter.mp hx).2
  unfold dstOf
  rw [h, rot_rot, hk, rot_four]

theorem gifts_cut (f : Buf (Elt F) ((c : Thread nD τ).loc main_v1_1)) (g : Buf (Elt F) ((c : Thread nD τ).loc main_v1_2)) :
    iprop(((c : Thread nD τ).loc main_v1_1 ↦{fullShare} f) ∗ ((c : Thread nD τ).loc main_v1_2 ↦{fullShare} g)) ⊢ gifts (F := F) c := by
  have h1 : ((c : Thread nD τ).loc main_v1_1 ↦{fullShare} f) ⊢ (bigSep Finset.univ fun t : Fin 4 × Fin 4 => any F c (spotM (0, t.1, t.2)) : sProp 𝕄) :=
    (any_of_whole c main_v1_1 f).trans ((any_cut c A3 (fun t : Fin 4 × Fin 4 => r4 t.1 t.2) (fun _ _ => rfl) d4 c4).trans (bigSep_mono fun t _ => any_sq c _))
  have h2 : ((c : Thread nD τ).loc main_v1_2 ↦{fullShare} g) ⊢ (bigSep Finset.univ fun t : Fin 4 × Fin 4 => any F c (spotM (1, t.1, t.2)) : sProp 𝕄) :=
    (any_of_whole c main_v1_2 g).trans ((any_cut c A4 (fun t : Fin 4 × Fin 4 => r4 t.1 t.2) (fun _ _ => rfl) d4 c4).trans (bigSep_mono fun t _ => any_sq c _))
  have h3 : iprop((bigSep Finset.univ fun t : Fin 4 × Fin 4 => any F c (spotM (0, t.1, t.2))) ∗ (bigSep Finset.univ fun t : Fin 4 × Fin 4 => any F c (spotM (1, t.1, t.2))))
      ⊢ (bigSep Finset.univ fun s : Spot => any F c (spotM s) : sProp 𝕄) := by
    rw [bigSep_univ_prod (fun s : Spot => any F c (spotM s)), bigSep_univ_eq_bigSepL (I := Fin 2) [0, 1] (by decide) (by decide), bigSepL_cons', bigSepL_singleton]
  refine (BI.sep_mono h1 h2).trans (h3.trans ((bigSepL_of_all _ (spots_nodup c) _).trans ?_))
  rw [bigSepL_append, bigSepL_append]
  exact BI.sep_mono (gift c 1 3 rfl) (BI.sep_mono (gift c 2 2 rfl) (gift c 3 1 rfl))

end Cert.RingProof
-- ==== Proof.Ghost.lean ====
module

public import proofs.«01_k».proof.Proof.Split

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ)

/-! ## Lists of resources -/

theorem bigSepL_both {I : Type} (l : List I) (Φ Ψ : I → sProp 𝕄) : iprop(bigSepL l Φ ∗ bigSepL l Ψ) ⊢ bigSepL l fun i => iprop(Φ i ∗ Ψ i) := by
  induction l with
  | nil => simp only [bigSepL_nil]; exact BI.sep_emp_elim
  | cons a l ih =>
    simp only [bigSepL_cons']
    iintro ⟨⟨H1, H2⟩, H3, H4⟩
    isplitl [H1 H3]
    · isplitl [H1] <;> iassumption
    iapply ih
    isplitl [H2] <;> iassumption

/-! ## The cells and the semaphores of a device -/

/-- The transfer semaphores of the kernel, all its own. -/
abbrev osem : Fin 72 → SemLoc sig := fun k => .dma k

theorem cellsL_nodup : ∀ c : Dev nD, (cellsL c).Nodup := by decide +kernel

/-- The numbers of the transfer semaphores that are cells of the protocol, -/
def numsC (c : Dev nD) : List ℕ := (recvs.drop 1).map (fun x => spotN (spotR c x)) ++ sends.map sendN
/-- and of the others: the eight of the copies inside the device, and those of the device's own place among the four. -/
def freeN (c : Dev nD) : List ℕ := [64, 65, 66, 67, 68, 69, 70, 71] ++ (List.range 64).filter fun n => decide (n ∉ numsC c)

theorem cellsL_eq (c : Dev nD) : cellsL c = barS :: (numsC c).map fun n => .dma (dsem n) := rfl

theorem sems_nodup : ∀ c : Dev nD, ((numsC c ++ freeN c).map dsem).Nodup := by decide +kernel
theorem sems_all : ∀ c : Dev nD, ∀ k : Fin 72, k ∈ (numsC c ++ freeN c).map dsem := by decide +kernel

theorem kcell_injective : Function.Injective kcell := by
  rintro ⟨c, k⟩ ⟨c', k'⟩ h
  have h1 : c = c' := congrArg (fun g : GSem nD τ sig => g.1.1) h
  subst h1
  have h2 : (cellsL c)[k.val]'(by rw [cellsL_length]; exact k.isLt) = (cellsL c)[k'.val]'(by rw [cellsL_length]; exact k'.isLt) :=
    congrArg (fun g : GSem nD τ sig => g.2) h
  exact Prod.ext rfl (Fin.ext ((cellsL_nodup c).getElem_inj_iff.mp h2))

theorem cells_list (c : Dev nD) (Φ : GSem nD τ sig → sProp 𝕄) :
    (bigSep Finset.univ fun k : Fin nC => Φ (kcell (c, k))) = bigSepL (cellsL c) fun s => Φ ((c : Thread nD τ), s) := by
  rw [bigSep_univ_eq_bigSepL (I := Fin nC) (List.finRange nC) (List.toFinset_finRange nC).symm (List.nodup_finRange nC) (fun k => Φ (kcell (c, k))),
    show cellsL c = (List.finRange nC).map (fun k => (cellsL c)[k.val]'(by rw [cellsL_length]; exact k.isLt)) from
      List.ext_getElem (by simp [cellsL_length]) (fun i h h' => by simp), bigSepL_map]
  refine congrArg (bigSepL (List.finRange nC)) (funext fun k => ?_)
  unfold kcell
  simp

theorem ownSems0_cut (c : Dev nD) : (Pipeline.ownSems0 (Ix := ℕ) (Name := ℕ) (U := UU) (Lvl := ℕ) (Val := Elt F) (τ := τ) osem c : sProp 𝕄)
    = iprop(bigSepL (numsC c) (fun n => semVal ((c : Thread nD τ), SemLoc.dma (dsem n)) 0) ∗ bigSepL (freeN c) fun n => semVal ((c : Thread nD τ), SemLoc.dma (dsem n)) 0) := by
  rw [Pipeline.ownSems0_eq_of_list c osem ((numsC c ++ freeN c).map dsem) (Finset.ext fun k => by simpa using sems_all c k) (sems_nodup c),
    bigSepL_map, bigSepL_append]

theorem unscopedSems0_eq (c : Dev nD) : (unscopedSems0 c : sProp 𝕄) = semVal ((c : Thread nD τ), barS) 0 := by
  unfold unscopedSems0; rw [bigSep_eq_bigSepL_of_eq [barS] (by decide) (by decide)]; rfl

variable (F) in
/-- The semaphores that are no cells. -/
def freeS (c : Dev nD) : sProp 𝕄 := bigSepL (freeN c) fun n => semVal ((c : Thread nD τ), SemLoc.dma (dsem n)) 0

theorem sems_cells (c : Dev nD) :
    iprop(Pipeline.ownSems0 (Ix := ℕ) (Name := ℕ) (U := UU) (Lvl := ℕ) (Val := Elt F) (τ := τ) osem c ∗ unscopedSems0 c)
      ⊢ iprop((bigSep Finset.univ fun k : Fin nC => (semVal (kcell (c, k)) 0 : sProp 𝕄)) ∗ freeS F c) := by
  rw [ownSems0_cut, unscopedSems0_eq, cells_list c (fun g => (semVal g 0 : sProp 𝕄)), cellsL_eq, bigSepL_cons', bigSepL_map]
  unfold freeS
  iintro ⟨⟨HN, HF⟩, HB⟩
  isplitr [HF]
  · isplitl [HB] <;> iassumption
  iexact HF

/-! ## The tokens, made for the device that pays with them -/

abbrev Tok : Type := GSem nD τ sig × ℕ × Fin 4
def toksL (c : Dev nD) : List Tok := codes.map (fun x => (remCell c x, 0, remD x)) ++ sends.map fun x => (sndCell c x, 0, 0)
def allToks : List Tok := toksL 0 ++ (toksL 1 ++ (toksL 2 ++ toksL 3))

/-- A token as a number. -/
def tokN (x : Tok) : ℕ := 1000 * x.1.1.1.val + 4 * (match x.1.2 with | .reg _ => 72 | .dma k => k.val) + x.2.2.val

theorem allToks_nodup : allToks.Nodup := List.Nodup.of_map tokN (by decide +kernel)

def ringCells : Finset (GSem nD τ sig) := Finset.univ.map ⟨kcell, kcell_injective⟩
def ringToks : Finset Tok := allToks.toFinset

def u₀ : UU := (initOf (Pipeline.cells cfgs cellOf_inj) (Pipeline.launchToks cfgs cellOf_inj), (initOf ringCells ringToks, 1))

variable (F) in
def toks (c : Dev nD) : sProp 𝕄 := bigSepL (toksL c) fun x => dutyTok ER x.1 x.2.1 x.2.2

/-- What the launch deals device `c`. -/
def G (c : Dev nD) : sProp 𝕄 :=
  iprop((bigSep Finset.univ fun k : Fin nC => roundState ER (Rd m) (kcell (c, k)) 0)
    ∗ (bigSep Finset.univ fun k : Fin nC => iprop(atPos ER (kcell (c, k)) 0 ∅ 0 ∗ reached ER (kcell (c, k)) 0)) ∗ toks F c)

variable (F) in
/-- What stays with device `c`: its positions, its tokens, and the semaphores that are no cells. -/
def linear (c : Dev nD) : sProp 𝕄 :=
  iprop((bigSep Finset.univ fun k : Fin nC => (atPos ER (kcell (c, k)) 0 ∅ 0 : sProp 𝕄)) ∗ toks F c ∗ freeS F c)

/-- What the devices make of it together. -/
def G' (c : Dev nD) : sProp 𝕄 := iprop((∃ K, recs m K) ∗ linear F c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin nC => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks F c := by
    unfold ringToks toks
    rw [bigSep_eq_bigSepL_of_eq allToks rfl allToks_nodup, bigSep_univ_eq_bigSepL (I := Dev nD) [0, 1, 2, 3] (by decide) (by decide)]
    unfold allToks
    rw [bigSepL_append, bigSepL_append, bigSepL_append, bigSepL_cons', bigSepL_cons', bigSepL_cons', bigSepL_singleton]
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin nC => iprop(atPos ER (kcell (c, k)) 0 ∅ 0 ∗ reached ER (kcell (c, k)) 0)) ∗ toks F c ∗ freeS F c) := by
  unfold G
  iintro ⟨Hos, Hus, Hst, Hat, Htok⟩
  ihave Hv := (sems_cells (F := F) c) $$ [Hos Hus]
  · isplitl [Hos] <;> iassumption
  icases Hv with ⟨Hv, Hf⟩
  imod (show iprop((bigSep Finset.univ fun k : Fin nC => semVal (kcell (c, k)) 0) ∗ bigSep Finset.univ fun k : Fin nC => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin nC => iprop(atPos ER (kcell (c, k)) 0 ∅ 0 ∗ reached ER (kcell (c, k)) 0)) ∗ toks F c ∗ freeS F c) : sProp 𝕄)
      ⊢ bigSep Finset.univ (G' m) := by
  rw [bigSep_sep', bigSep_sep', ← bigSep_univ_prod (fun ck : Dev nD × Fin nC => iprop(∃ κ : ℕ, cellInv ER (Rd m) κ (kcell ck))),
    bigSep_congr (s := Finset.univ) (fun (c : Dev nD) _ => bigSep_sep' Finset.univ (fun k : Fin nC => (atPos ER (kcell (c, k)) 0 ∅ 0 : sProp 𝕄)) (fun k => reached ER (kcell (c, k)) 0)),
    bigSep_sep', ← bigSep_univ_prod (fun ck : Dev nD × Fin nC => (reached ER (kcell ck) 0 : sProp 𝕄))]
  iintro ⟨HI, ⟨Hat, #HR⟩, Htok⟩
  ihave HK := (BI.bigSep_exists_pi Finset.univ (fun (ck : Dev nD × Fin nC) (κ : ℕ) => (cellInv ER (Rd m) κ (kcell ck) : sProp 𝕄))) $$ HI
  icases HK with ⟨%K, #HI⟩
  iapply (bigSep_with_persistent (R := recs m K) (Φ := fun c => linear F c) fun c _ => (show iprop(recs m K ∗ linear F c) ⊢ G' m c from by
    unfold G'
    iintro ⟨HR, HL⟩
    isplitl [HR]
    · iexists K; iexact HR
    iexact HL))
  isplitr
  · unfold recs; isplitl; · iexact HI
    iexact HR
  · iapply (Entails.of_eq (bigSep_sep' Finset.univ (fun c : Dev nD => bigSep Finset.univ fun k : Fin nC => (atPos ER (kcell (c, k)) 0 ∅ 0 : sProp 𝕄))
      (fun c => iprop(toks F c ∗ freeS F c))).symm)
    isplitl [Hat]; · iexact Hat
    iexact Htok

/-- The launch step of all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.RingProof
-- ==== Proof.Start.lean ====
module

public import proofs.«01_k».proof.Proof.Ghost

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ)

/-! ## The launch credit -/

theorem bigSepL_perm' {I : Type} {l l' : List I} (h : l.Perm l') (Φ : I → sProp 𝕄) : bigSepL l Φ ⊢ bigSepL l' Φ := by
  induction h with
  | nil => exact BI.Entails.refl _
  | cons a _ ih => rw [bigSepL_cons', bigSepL_cons']; exact BI.sep_mono (BI.Entails.refl _) ih
  | swap a b l =>
    simp only [bigSepL_cons']
    iintro ⟨H1, H2, H3⟩
    isplitl [H2]; · iexact H2
    isplitl [H1] <;> iassumption
  | trans _ _ h1 h2 => exact h1.trans h2

/-- A payment without the device it is made to: the cell, the level, and whether it is a barrier's unit. -/
abbrev Key : Type := SemLoc sig × ℕ × Bool
def keyPay (c : Dev nD) (k : Key) : Pay nD τ sig := (((c : Thread nD τ), k.1), k.2.1, if k.2.2 then 1 else NB)
def keyOf (p : Dev nD × Code) : Key := (remS p.1 p.2, lvl p.2, decide (p.2.1 = 2))
/-- All payments, by who makes them. -/
def pairs : List (Dev nD × Code) := (List.finRange nD).flatMap fun d => codes.map fun x => (d, x)
/-- What is paid to device `c`: its barrier three units, its other cells their transfer. -/
def keysAt (c : Dev nD) : List Key :=
  (barS, 1, true) :: (barS, 1, true) :: (barS, 1, true) :: (recvs.drop 1).map fun x => (rcvS c x, lvlR x, false)

theorem keys_perm : ∀ c : Dev nD, ((pairs.filter fun p => decide (rot p.1 (toOff p.2) = c)).map keyOf).Perm (keysAt c) := by decide +kernel

theorem pay_key (c : Dev nD) (p : Dev nD × Code) (h : rot p.1 (toOff p.2) = c) : pay p.1 p.2 = keyPay c (keyOf p) := by
  subst h
  unfold pay keyPay keyOf amtC
  by_cases hx : p.2.1 = 2
  · rw [if_pos hx]; simp [hx]
  · rw [if_neg hx]; simp [hx]

theorem credOf_eq (c : Dev nD) : TalkSites.credOf pays c = ((pairs.filter fun p => decide (rot p.1 (toOff p.2) = c)).map keyOf).map (keyPay c) := by
  have h1 : TalkSites.allPays pays = pairs.map fun p => pay p.1 p.2 := by
    unfold TalkSites.allPays pairs pays
    rw [List.map_flatMap]
    simp only [List.map_map, Function.comp_def]
  unfold TalkSites.credOf
  rw [h1, List.filter_map, List.map_map]
  have h2 : (pairs.filter ((fun x : Pay nD τ sig => decide (x.1.1 = (c : Thread nD τ))) ∘ fun p => pay p.1 p.2)) = pairs.filter fun p => decide (rot p.1 (toOff p.2) = c) :=
    List.filter_congr fun p _ => decide_eq_decide.mpr ⟨fun h => congrArg Prod.fst h, fun h => congrArg Dev.tc h⟩
  rw [h2]
  exact List.map_congr_left fun p hp => pay_key c p (of_decide_eq_true (List.mem_filter.mp hp).2)

theorem creds (c : Dev nD) : (Pipeline.launchCred (fun d => tallyL (pays d)) c : sProp 𝕄)
    ⊢ bigSepL recvs fun x => cred (tallyAt (rcvCell c x) (lvlR x) (amtR x)) := by
  have hdue : ∀ c, ∀ x ∈ pays c, x.1.1.2 = .tc := fun c x hx => by
    obtain ⟨y, -, rfl⟩ := List.mem_map.mp hx
    rfl
  rw [TalkSites.launchCred_tallyL pays hdue c, TalkSites.cred_tallyL, credOf_eq, bigSepL_map]
  refine (bigSepL_perm' (keys_perm c) _).trans ?_
  unfold keysAt
  rw [bigSepL_cons', bigSepL_cons', bigSepL_cons', bigSepL_map, show recvs = (2,0,0) :: recvs.drop 1 from rfl, bigSepL_cons',
    show ((2,0,0) :: recvs.drop 1 : List Code).drop 1 = recvs.drop 1 from rfl]
  have hb : (cred (tallyAt (rcvCell c (2,0,0)) (lvlR (2,0,0)) (amtR (2,0,0))) : sProp 𝕄)
      = iprop(cred (tallyAt ((c : Thread nD τ), barS) 1 1) ∗ cred (tallyAt ((c : Thread nD τ), barS) 1 1) ∗ cred (tallyAt ((c : Thread nD τ), barS) 1 1)) := by
    have hc (a b : CellTallies nD τ sig ℕ) : (cred (a + b) : sProp 𝕄) = iprop(cred a ∗ cred b) := BI.Entails.antisymm (cred_add _ _).1 (cred_add _ _).2
    rw [← hc, ← hc, tallyAt_add, tallyAt_add]; rfl
  rw [hb]
  have hr : (bigSepL (recvs.drop 1) fun x => (cred (keyPay c (rcvS c x, lvlR x, false)).tally : sProp 𝕄))
      ⊢ bigSepL (recvs.drop 1) fun x => cred (tallyAt (rcvCell c x) (lvlR x) (amtR x)) :=
    bigSepL_mono fun x hx => Entails.of_eq (by
      have h2 : x.1 ≠ 2 := (show ∀ y ∈ recvs.drop 1, y.1 ≠ 2 by decide) x hx
      unfold amtR; rw [if_neg h2]; rfl)
  iintro ⟨H1, H2, H3, HR⟩
  isplitr [HR]
  · isplitl [H1]; · iexact H1
    isplitl [H2]; · iexact H2
    iexact H3
  iapply hr
  iexact HR

/-! ## What a device starts from -/

/-- The state before the first step, but for what the device owes. -/
def St0 (c : Dev nD) : sProp 𝕄 := iprop((∃ K, recs m K) ∗ levs F ∗ bigSepL codes (tok F c) ∗ bigSepL recvs (rk F c))

theorem st_start (c : Dev nD) (W : Waits sig ℕ) : iprop(St0 m c ∗ owes (c : Thread nD τ) (tallyL (pays c)) W) ⊢ St m c 0 0 0 := by
  unfold St0 St
  rw [show (pays c).drop 0 = pays c from rfl, show codes.drop 0 = codes from rfl, show recvs.drop 0 = recvs from rfl, show recvs.take 0 = [] from rfl, show sends.take 0 = [] from rfl,
    show ([] : List Code).drop 0 = [] from rfl, if_pos rfl, bigSepL_nil, bigSepL_nil, bigSepL_nil]
  iintro ⟨⟨HK, HL, HT, HR⟩, HO⟩
  isplitl [HK]; · iexact HK
  isplitl [HL]; · iexact HL
  isplitl [HO]; · iexists W; iexact HO
  isplitl [HT]; · iexact HT
  isplitl [HR]; · iexact HR
  isplitr; · iempintro
  isplitr; · iempintro
  isplitr <;> iempintro

theorem st0_intro (c : Dev nD) :
    iprop((∃ K, recs m K) ∗ levs F ∗ (Pipeline.launchCred (fun d => tallyL (pays d)) c : sProp 𝕄)
      ∗ (bigSep Finset.univ fun k : Fin nC => (atPos ER (kcell (c, k)) 0 ∅ 0 : sProp 𝕄)) ∗ toks F c) ⊢ St0 m c := by
  have h1 : iprop((bigSepL recvs fun x => cred (tallyAt (rcvCell c x) (lvlR x) (amtR x))) ∗ bigSepL recvs fun x => (atPos ER (rcvCell c x) 0 ∅ 0 : sProp 𝕄))
      ⊢ bigSepL recvs (rk F c) := bigSepL_both _ _ _
  have h2 : iprop((bigSepL sends fun x => (dutyTok ER (remCell c x) 0 (remD x) : sProp 𝕄)) ∗ (bigSepL sends fun x => (dutyTok ER (sndCell c x) 0 0 : sProp 𝕄))
        ∗ bigSepL sends fun x => (atPos ER (sndCell c x) 0 ∅ 0 : sProp 𝕄))
      ⊢ bigSepL sends (tok F c) :=
    (BI.sep_mono (BI.Entails.refl _) (bigSepL_both _ _ _)).trans ((bigSepL_both _ _ _).trans (bigSepL_mono fun x hx => Entails.of_eq (by
      have h2 : x.1 ≠ 2 := (show ∀ y ∈ sends, y.1 ≠ 2 by decide) x hx
      unfold tok; rw [if_neg h2])))
  have h3 : ∀ x ∈ codes.take 3, (dutyTok ER (remCell c x) 0 (remD x) : sProp 𝕄) ⊢ tok F c x := fun x hx => Entails.of_eq (by
      have h2 : x.1 = 2 := (show ∀ y ∈ codes.take 3, y.1 = 2 by decide) x hx
      unfold tok; rw [if_pos h2])
  have h4 : bigSepL (codes.take 3) (fun x => (dutyTok ER (remCell c x) 0 (remD x) : sProp 𝕄)) ⊢ bigSepL (codes.take 3) (tok F c) := bigSepL_mono h3
  unfold St0 toks toksL
  rw [cells_list c (fun g => (atPos ER g 0 ∅ 0 : sProp 𝕄)), bigSepL_append, bigSepL_map, bigSepL_map]
  unfold cellsL
  rw [bigSepL_append, bigSepL_map, bigSepL_map, show codes = codes.take 3 ++ sends from rfl, bigSepL_append, bigSepL_append]
  iintro ⟨HK, HL, HC, ⟨HA, HB⟩, ⟨HT1, HT2⟩, HT3⟩
  isplitl [HK]; · iexact HK
  isplitl [HL]; · iexact HL
  isplitr [HC HA]
  · isplitl [HT1]; · iapply h4; iexact HT1
    iapply h2
    isplitl [HT2]; · iexact HT2
    isplitl [HT3]; · iexact HT3
    iexact HB
  iapply h1
  isplitl [HC]
  · iapply (creds c); iexact HC
  iexact HA

/-- What the kernel is launched with on device `c`, its scratch apart. -/
def start (c : Dev nD) : sProp 𝕄 :=
  iprop(St0 m c ∗ freeS F c ∗ gifts (F := F) c ∗ Tp c m 0 0 ∗ Wp c m 0 0 ∗ Op c m 0 0 ∗ Ep F c 0)

theorem start_intro (ρ : Dev nD → PrngReg) (c : Dev nD) :
    iprop(Pipeline.unscopedRestP Pipeline.Prefetch.none cfg0.spec c (fun b => m ((c : Thread nD τ).loc b)) ∗ levAts (SiteBlocks.L nL) SiteBlocks.lv
        ∗ Pipeline.launchCred (fun d => tallyL (pays d)) c ∗ prngReg c (ρ c) ∗ G' m c)
      ⊢ (|={Set.univ}=> iprop(start m c ∗ emp) : sProp 𝕄) := by
  rw [Pipeline.unscopedRestP_none, unscopedRest0_eq]
  unfold G' linear start
  iintro ⟨⟨HT, HW, HO, H1, H2, HE⟩, HL, HC, -, HK, HA, Htk, HF⟩
  imodintro
  isplitl
  · isplitl [HK HL HC HA Htk]
    · iapply (st0_intro m c)
      isplitl [HK]; · iexact HK
      isplitl [HL]; · iexact HL
      isplitl [HC]; · iexact HC
      isplitl [HA] <;> iassumption
    isplitl [HF]; · iexact HF
    isplitl [H1 H2]
    · iapply (gifts_cut c _ _)
      isplitl [H1]; · iexact H1
      iexact H2
    isplitl [HT]; · iapply (t_cut c m); iexact HT
    isplitl [HW]; · iapply (w_cut c m); iexact HW
    isplitl [HO]; · iapply (o_cut c m _); iexact HO
    iapply (e_cut c _); iexact HE
  · iempintro

end Cert.RingProof
-- ==== Proof.Ends.lean ====
module

public import proofs.«01_k».proof.Proof.Start

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ)

/-! ## The body between what the launch gives and what it takes back -/

/-- The semaphores no step touches. -/
def idleN (c : Dev nD) : List ℕ := (List.range 64).filter fun n => decide (n ∉ numsC c)
variable (F) in
def idleS (c : Dev nD) : sProp 𝕄 := bigSepL (idleN c) fun n => sv F c (dsem n)

theorem freeS_cut (c : Dev nD) : freeS F c = iprop((sv F c (dsem 64) ∗ sv F c (dsem 65) ∗ sv F c (dsem 66) ∗ sv F c (dsem 67)
    ∗ sv F c (dsem 68) ∗ sv F c (dsem 69) ∗ sv F c (dsem 70) ∗ sv F c (dsem 71)) ∗ idleS F c) := by
  unfold freeS freeN idleS idleN
  rw [bigSepL_append]
  rfl

variable (F) in
/-- The scratch buffers, whole. -/
def scr (c : Dev nD) : sProp 𝕄 :=
  iprop(any F c A6 ∗ any F c A7 ∗ any F c A8 ∗ any F c A9 ∗ any F c A10 ∗ any F c A11 ∗ any F c A12 ∗ any F c A13)

theorem any_of_ex (c : Dev nD) (b : Ref sig .tc) : iprop(∃ f, (c : Thread nD τ).loc b ↦{fullShare} f) ⊢ any F c (Memref.whole b) := by
  iintro ⟨%f, H⟩
  iapply (any_of_whole c b f)
  iexact H

theorem scr_of (c : Dev nD) : (Pipeline.scopedRest cfg0.spec c : sProp 𝕄) ⊢ scr F c := by
  rw [scopedRest0_eq]
  unfold scr
  exact BI.sep_mono (any_of_ex c _) (BI.sep_mono (any_of_ex c _) (BI.sep_mono (any_of_ex c _) (BI.sep_mono (any_of_ex c _) (BI.sep_mono (any_of_ex c _)
    (BI.sep_mono (any_of_ex c _) (BI.sep_mono (any_of_ex c _) (any_of_ex c _)))))))

theorem scr_to (c : Dev nD) : scr F c ⊢ (Pipeline.scopedRest cfg0.spec c : sProp 𝕄) := by
  rw [scopedRest0_eq]
  unfold scr
  exact BI.sep_mono (any_to_whole c _) (BI.sep_mono (any_to_whole c _) (BI.sep_mono (any_to_whole c _) (BI.sep_mono (any_to_whole c _) (BI.sep_mono (any_to_whole c _)
    (BI.sep_mono (any_to_whole c _) (BI.sep_mono (any_to_whole c _) (any_to_whole c _)))))))

/-- What the arrays hold at the end. -/
def fin (c : Dev nD) : sProp 𝕄 := iprop(Tp c m 16 16 ∗ Wp c m 4 4 ∗ Op c m 16 16 ∗ unscopedSems0 c)

theorem body_enter (c : Dev nD) (W : Waits sig ℕ) :
    iprop(start m c ∗ scr F c ∗ owes (c : Thread nD τ) (tallyL (pays c)) W)
      ⊢ iprop((gifts (F := F) c ∗ St m c 0 0 0 ∗ Tp c m 0 0 ∗ Wp c m 0 0 ∗ Op c m 0 0 ∗ Ep F c 0 ∗ Own c m 0 ∗ W16 c m 0 ∗ Yp F c 0 ∗ slots (F := F) c) ∗ idleS F c) := by
  unfold start scr slots Own W16 Rp Yp
  rw [freeS_cut]
  iintro ⟨⟨HS, ⟨⟨S64, S65, S66, S67, S68, S69, S70, S71⟩, HI⟩, HG, HT, HW, HO, HE⟩, ⟨H6, H7, H8, H9, H10, H11, H12, H13⟩, Hw⟩
  ihave H6 := (slots_cut c A6) $$ H6
  icases H6 with ⟨H60, H61⟩
  ihave H7 := (slots_cut c A7) $$ H7
  icases H7 with ⟨H70, H71⟩
  ihave H10 := (slots_cut c A10) $$ H10
  icases H10 with ⟨H100, H101⟩
  ihave H12 := (slots_cut c A12) $$ H12
  icases H12 with ⟨H120, H121⟩
  ihave H13 := (slots_cut c A13) $$ H13
  icases H13 with ⟨H130, H131⟩
  isplitr [HI]
  · isplitl [HG]; · iexact HG
    isplitl [HS Hw]
    · iapply (st_start m c W)
      isplitl [HS] <;> iassumption
    isplitl [HT]; · iexact HT
    isplitl [HW]; · iexact HW
    isplitl [HO]; · iexact HO
    isplitl [HE]; · iexact HE
    isplitl [H8]; · iapply (pool_start _ _ _); iapply (rows_cut c A8); iexact H8
    isplitl [H9]; · iapply (pool_start _ _ _); iapply (rows_cut c A9); iexact H9
    isplitl [H11]; · iapply (pool_start _ _ _); iapply (rows_cut c A11); iexact H11
    isplitl [H60 H61 S64 S65]
    · isplitl [H60]; · iexact H60
      isplitl [S64]; · iexact S64
      isplitl [H61]; · iexact H61
      iexact S65
    isplitl [H70 H71 S66 S67]
    · isplitl [H70]; · iexact H70
      isplitl [S66]; · iexact S66
      isplitl [H71]; · iexact H71
      iexact S67
    isplitl [H100 H101]
    · isplitl [H100]; · iexact H100
      iexact H101
    isplitl [H120 H121 S70 S71]
    · isplitl [H120]; · iexact H120
      isplitl [S70]; · iexact S70
      isplitl [H121]; · iexact H121
      iexact S71
    isplitl [H130]; · iexact H130
    isplitl [S68]; · iexact S68
    isplitl [H131]; · iexact H131
    iexact S69
  iexact HI

set_option maxRecDepth 4000 in
theorem st_end (c : Dev nD) : St m c 27 25 24 ⊢ iprop((∃ W, owes (c : Thread nD τ) 0 W) ∗ unscopedSems0 c ∗ bigSepL (numsC c) fun n => sv F c (dsem n)) := by
  have h1 : bigSepL recvs (fun x => (semVal (rcvCell c x) 0 : sProp 𝕄))
      = iprop(semVal ((c : Thread nD τ), barS) 0 ∗ bigSepL ((recvs.drop 1).map fun x => spotN (spotR c x)) fun n => sv F c (dsem n)) := rfl
  unfold St numsC
  rw [unscopedSems0_eq, show recvs.take 25 = recvs from rfl, show sends.take 24 = sends from rfl, h1, bigSepL_append, bigSepL_map]
  iintro ⟨-, -, HO, -, -, -, -, ⟨HB, HR⟩, HS⟩
  isplitl [HO]; · iexact HO
  isplitl [HB]; · iexact HB
  isplitl [HR]; · iexact HR
  iexact HS

theorem body_leave (c : Dev nD) :
    iprop((St m c 27 25 24 ∗ Tp c m 16 16 ∗ Wp c m 4 4 ∗ Op c m 16 16 ∗ OwnQ c m 4 ∗ W16w c m
          ∗ bigSepL jl (fun j => any F c (rowsM A11 j)) ∗ slots (F := F) c) ∗ idleS F c)
      ⊢ iprop((fin m c ∗ Pipeline.ownSems0 osem c ∗ scr F c) ∗ ∃ W, owes (c : Thread nD τ) 0 W) := by
  have hown : OwnQ c m 4 ⊢ any F c A8 := by
    refine BI.Entails.trans ?_ (rows_join c A8)
    unfold OwnQ Pool
    rw [show jl.drop 4 = [] from rfl, bigSepL_nil, show jl.take 4 = jl from rfl]
    exact BI.emp_sep_elim.trans (bigSepL_mono fun j _ => exists_intro _)
  have hw : W16w c m ⊢ any F c A9 := any_of_whole c cc0_scratch3 _
  unfold fin scr slots
  rw [ownSems0_cut, show (bigSepL (freeN c) fun n => (semVal ((c : Thread nD τ), SemLoc.dma (dsem n)) 0 : sProp 𝕄)) = freeS F c from rfl, freeS_cut]
  iintro ⟨⟨HS, HT, HW, HO, HOw, H9, H11, ⟨H60, S64, H61, S65⟩, ⟨H70, S66, H71, S67⟩, ⟨H100, H101⟩, ⟨H120, S70, H121, S71⟩, ⟨H130, S68, H131, S69⟩⟩, HI⟩
  ihave HS := (st_end m c) $$ HS
  icases HS with ⟨Hw, HB, HN⟩
  isplitr [Hw]
  · isplitl [HT HW HO HB]
    · isplitl [HT]; · iexact HT
      isplitl [HW]; · iexact HW
      isplitl [HO]; · iexact HO
      iexact HB
    isplitl [HN HI S64 S65 S66 S67 S68 S69 S70 S71]
    · isplitl [HN]; · iexact HN
      isplitr [HI]
      · isplitl [S64]; · iexact S64
        isplitl [S65]; · iexact S65
        isplitl [S66]; · iexact S66
        isplitl [S67]; · iexact S67
        isplitl [S68]; · iexact S68
        isplitl [S69]; · iexact S69
        isplitl [S70]; · iexact S70
        iexact S71
      iexact HI
    isplitl [H60 H61]
    · iapply (slots_join c A6)
      isplitl [H60]; · iexact H60
      iexact H61
    isplitl [H70 H71]
    · iapply (slots_join c A7)
      isplitl [H70]; · iexact H70
      iexact H71
    isplitl [HOw]; · iapply hown; iexact HOw
    isplitl [H9]; · iapply hw; iexact H9
    isplitl [H100 H101]
    · iapply (slots_join c A10)
      isplitl [H100]; · iexact H100
      iexact H101
    isplitl [H11]; · iapply (rows_join c A11); iexact H11
    isplitl [H120 H121]
    · iapply (slots_join c A12)
      isplitl [H120]; · iexact H120
      iexact H121
    iapply (slots_join c A13)
    isplitl [H130]; · iexact H130
    iexact H131
  iexact Hw

end Cert.RingProof
-- ==== Proof.Launch.lean ====
module

public import proofs.«01_k».proof.Proof.Ends

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's one point -/

/-- What the devices hold before the body and after it. -/
def before (c : Dev nD) : sProp 𝕄 := iprop(start m c ∗ scr F c)
def after (c : Dev nD) : sProp 𝕄 := iprop(fin m c ∗ Pipeline.ownSems0 osem c ∗ scr F c)

def dats (_ : Fin 1) (c : Dev nD) : Pipeline.Dat τ (Elt F) ℕ ℕ UU ℕ cfg0 c where
  A w := w.elim0
  after w _ := w.elim0
  Φ t := match t with
    | ⟨0, _⟩ => before m c
    | ⟨_ + 1, _⟩ => after m c
  q _ := fullShare
  owed t := match t with
    | ⟨0, _⟩ => tallyL (pays c)
    | ⟨_ + 1, _⟩ => 0

theorem wins_emp (Φ : Fin cfg0.W → sProp 𝕄) : bigSep Finset.univ Φ = iprop(emp) := by
  rw [show (Finset.univ : Finset (Fin cfg0.W)) = ∅ from rfl, bigSep_empty]; rfl

theorem body_all (c : Dev nD) (W : Waits sig ℕ) :
    iprop(before m c ∗ owes (c : Thread nD τ) (tallyL (pays c)) W)
      ⊢ wpp c (onA (cc0_body (F := F))) (fun _ => iprop(after m c ∗ ∃ W, owes (c : Thread nD τ) 0 W)) := by
  unfold before after
  refine (sep_assoc.1.trans (body_enter m c W)).trans ((BI.sep_mono (body_sound c m) (BI.Entails.refl _)).trans
    ((wp_frame_r _ _ _).trans (wp_mono _ _ _ fun _ => ?_)))
  exact body_leave m c

set_option maxRecDepth 65536 in
theorem prog_eq : defs₀ (F := F) .tc cfg0.body (cfg0.bodyArgs t0_0 (cfg0.slots t0_0)) = onA (cc0_body (F := F)) := rfl

theorem owes_in (c : Dev nD) : (dats m 0 c).owesAt 0 t0_0.castSucc ⊢ iprop(∃ W, owes (c : Thread nD τ) (tallyL (pays c)) W) := by
  unfold Pipeline.Dat.owesAt Pipeline.owesWithin
  rw [show (dats m 0 c).owed t0_0.castSucc = tallyL (pays c) from rfl]
  iintro ⟨%W, -, HO⟩
  iexists W; iexact HO

theorem owes_out (c : Dev nD) : iprop(∃ W, owes (c : Thread nD τ) 0 W) ⊢ (dats m 0 c).owesAt 0 t0_0.succ := by
  unfold Pipeline.Dat.owesAt Pipeline.owesWithin
  rw [show (dats m 0 c).owed t0_0.succ = 0 from rfl]
  iintro ⟨%W, HO⟩
  iexists W
  isplitr; · ipureintro; exact fun _ _ => Or.inl trivial
  iexact HO

/-- The library's body obligation on core `c`. -/
theorem body_obligation (c : Dev nD) : Pipeline.BodyObligation (dats (F := F) m 0 c) (defs₀ (F := F)) 𝒱₀ 0 Set.univ := fun t => by
  rw [fin_N0 t, wins_emp, wins_emp, prog_eq, show (dats m 0 c).Φ t0_0.castSucc = before m c from rfl, show (dats m 0 c).Φ t0_0.succ = after m c from rfl]
  have h (W : Waits sig ℕ) := (body_all m c W).trans (wp_mono _ _ _ fun _ => (show iprop(after m c ∗ ∃ W, owes (c : Thread nD τ) 0 W)
      ⊢ iprop(after m c ∗ (dats m 0 c).owesAt 0 t0_0.succ ∗ emp) from by
    iintro ⟨HA, HO⟩
    isplitl [HA]; · iexact HA
    isplitl [HO]
    · iapply (owes_out m c); iexact HO
    iempintro))
  iintro ⟨HB, HO, -⟩
  ihave HO := (owes_in m c) $$ HO
  icases HO with ⟨%W, HO⟩
  iapply (h W)
  isplitl [HB] <;> iassumption

theorem ownSemFacts : Pipeline.OwnSemFacts cfg0.spec osem := by decide

theorem waits (c : Dev nD) : (levAts (SiteBlocks.L nL) SiteBlocks.lv : sProp 𝕄) ⊢ Pipeline.cellsWaits cfgs (dats m) 0 0 c :=
  Pipeline.cellsWaits_intro cfgs (dats m) 0 0 c fun w => w.elim0

end Cert.RingProof
-- ==== Proof.Run.lean ====
module

public import proofs.«01_k».proof.Proof.Launch
public import Idealize.ShloMosaic.Lib.Pipeline.Quiescent
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ) (ρ : Dev nD → PrngReg)

/-! ## What the memory holds at the end -/

theorem owns_final (c : Dev nD) (v : MemH .f32) (X : C32 F) (s' : Phys nD τ sig (Elt F)) :
    iprop(owns (c : Thread nD τ) v fullShare X ∗ SI s') ⊢ (⌜v.view.read (Elt F) (s'.mem.mem (v.view.loc (c : Thread nD τ))) = X⌝ : sProp 𝕄) := by
  unfold owns
  iintro ⟨⟨%f, %hf, H⟩, HSI⟩
  icombine HSI H gives %h
  ipureintro
  rw [← hf]
  exact View.read_congr h

theorem bigSepL_mem {I : Type} {l : List I} {x : I} (h : x ∈ l) (Φ : I → sProp 𝕄) : bigSepL l Φ ⊢ Φ x := by
  induction l with
  | nil => exact absurd h List.not_mem_nil
  | cons a l ih =>
    rw [bigSepL_cons']
    rcases List.mem_cons.mp h with rfl | h
    · iintro ⟨H, -⟩; iexact H
    · iintro ⟨-, H⟩; iapply (ih h); iexact H

theorem owns_finals {I : Type} (c : Dev nD) (l : List I) (M : I → MemH .f32) (V : I → C32 F) (s' : Phys nD τ sig (Elt F)) :
    iprop(bigSepL l (fun x => owns (c : Thread nD τ) (M x) fullShare (V x)) ∗ SI s')
      ⊢ (⌜∀ x ∈ l, (M x).view.read (Elt F) (s'.mem.mem ((M x).view.loc (c : Thread nD τ))) = V x⌝ : sProp 𝕄) :=
  fun i hi x hx => (((BI.sep_mono (bigSepL_mem hx _) (BI.Entails.refl _)).trans (owns_final c (M x) (V x) s'))) i hi

theorem pool_all {I : Type} (l : List I) (P P' : I → sProp 𝕄) (n : ℕ) (h : l.length = n) : Pool l P P' n n ⊢ bigSepL l P' := by
  unfold Pool
  subst h
  rw [List.drop_length, List.take_length, bigSepL_nil]
  exact BI.emp_sep_elim

theorem tl_all : ∀ c b j : Fin 4, ∃ x ∈ tl, rot c x.1.val = b ∧ x.2 = j := by decide
theorem ol_all : ∀ c b j : Fin 4, ∃ x ∈ ol, rot c x.1.val = b ∧ x.2 = j := by decide
theorem jl_all : ∀ j : Fin 4, j ∈ jl := by decide

/-- Device `c`'s memory at the end: the result chunk by chunk, the arguments as they were, the semaphores at zero. -/
def Final (c : Dev nD) (s : MemSt nD τ sig (Elt F)) : Prop :=
  ((∀ b j (y : S512x2048.Idx), (s.mem ((c : Thread nD τ).loc main_v1_0) : S8192x2048.Idx → Elt F .f32) ((r8 b j).emb y) = outV m c b j y)
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem final_read (c : Dev nD) (s' : Phys nD τ sig (Elt F)) :
    iprop(fin m c ∗ emp ∗ SI s') ⊢ |={Set.univ}=> (iprop(⌜Final m c s'.mem⌝ ∗ SI s') : sProp 𝕄) := by
  have hT := pool_all (F := F) tl (fun x => owns (c : Thread nD τ) (tM (rot c x.1.val) x.2) fullShare (tV c m x)) (fun x => owns (c : Thread nD τ) (tM (rot c x.1.val) x.2) fullShare (tV c m x)) 16 rfl
  have hW := pool_all (F := F) jl (fun j => owns (c : Thread nD τ) (wM j) fullShare (wch m c j)) (fun j => owns (c : Thread nD τ) (wM j) fullShare (wch m c j)) 4 rfl
  have hO := pool_all (F := F) ol (oO F c) (oD c m) 16 rfl
  have hTr : iprop(fin m c ∗ SI s') ⊢ _ := (BI.sep_mono (show fin m c ⊢ _ from by unfold fin Tp Wp Cp; iintro ⟨HT, -, -, -⟩; iapply hT; iexact HT) (BI.Entails.refl _)).trans
    (owns_finals c tl (fun x => tM (rot c x.1.val) x.2) (tV c m) s')
  have hWr : iprop(fin m c ∗ SI s') ⊢ _ := (BI.sep_mono (show fin m c ⊢ _ from by unfold fin Tp Wp Cp; iintro ⟨-, HW, -, -⟩; iapply hW; iexact HW) (BI.Entails.refl _)).trans
    (owns_finals c jl wM (wch m c) s')
  have hOr : iprop(fin m c ∗ SI s') ⊢ _ := (BI.sep_mono (show fin m c ⊢ _ from by unfold fin; iintro ⟨-, -, HO, -⟩; iapply hO; iexact HO) (BI.Entails.refl _)).trans
    (owns_finals c ol (fun x => outM (rot c x.1.val) x.2) (fun x => outV m c (rot c x.1.val) x.2) s')
  have hv : iprop(fin m c ∗ SI s') ⊢ (⌜(∀ b j (y : S512x2048.Idx), (s'.mem.mem ((c : Thread nD τ).loc main_v1_0) : S8192x2048.Idx → Elt F .f32) ((r8 b j).emb y) = outV m c b j y)
      ∧ s'.mem.mem ((c : Thread nD τ).loc main_arg0) = m ((c : Thread nD τ).loc main_arg0)
      ∧ s'.mem.mem ((c : Thread nD τ).loc main_arg1) = m ((c : Thread nD τ).loc main_arg1)⌝ : sProp 𝕄) := by
    intro i hi
    refine ⟨fun b j y => ?_, ?_, ?_⟩
    · obtain ⟨x, hx, rfl, rfl⟩ := ol_all c b j
      exact congrFun (hOr i hi x hx) y
    · refine eq8 (F := F) (e := .f32) fun b j y => ?_
      obtain ⟨x, hx, rfl, rfl⟩ := tl_all c b j
      exact congrFun (hTr i hi x hx) y
    · refine eq1 (F := F) (e := .f32) fun j y => ?_
      exact congrFun (hWr i hi j (jl_all j)) y
  have hs : fin m c ⊢ (|={Set.univ}=> unscopedSems0 c : sProp 𝕄) := by
    unfold fin
    iintro ⟨-, -, -, H⟩
    imodintro; iexact H
  unfold Final
  iintro ⟨HF, -, HSI⟩
  ihave %h := hv $$ [HF HSI]
  · isplitl [HF] <;> iassumption
  imod (Pipeline.unscopedSems0_read (X := fin m c) (c := c) hs s') $$ [HF HSI] with ⟨%h', HSI⟩
  · isplitl [HF] <;> iassumption
  imodintro
  isplitr
  · ipureintro; exact ⟨h, h'⟩
  iexact HSI

/-! ## The run -/

/-- The machine at launch. -/
def s₀ : MemSt nD τ sig (Elt F) := ⟨m, fun _ => 0, ρ⟩

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨HS, -, HR⟩
  isplitl [HS]; · iexact HS
  iapply (scr_of c); iexact HR

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = after m c from rfl]
  unfold after
  exact BI.sep_mono (BI.Entails.refl _) (BI.sep_mono (BI.Entails.refl _) (scr_to c))

set_option maxRecDepth 65536 in
set_option maxHeartbeats 1600000 in
/-- On the four devices, for any float values, from any memory with zero counters: every weakly fair execution of the
    program terminates, and every final state has each device's result chunk by chunk at `outV`, its arguments as they
    were, and every semaphore at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => tallyL (pays d)) (howed₀ := fun _ => rfl) (howedN := fun _ => rfl)
    (L := SiteBlocks.L nL) (lv := SiteBlocks.lv) (hL := fun g h => SiteBlocks.hL nL g h) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := Final m) (hY := final_read m)
    (hQ := fun _ h hs => ⟨fun c => (h c).2.2, sem_eq_zero hs fun c => (h c).2.2.2⟩)

end Cert.RingProof
-- ==== Proof.Frames.lean ====
module

public import proofs.«01_k».proof.Defs
public import proofs.«01_k».proof.Proof.Gen.Kernel
public import proofs.«01_k».proof.Proof.Gen.ReferenceIdeal.Run
public import proofs.«01_k».proof.Proof.Run
public import Idealize.ShloMosaic.Adequacy
public import Idealize.ShloMosaic.Init

@[expose] public section

noncomputable section

namespace Cert.RingProof

open Idealize.ShloMosaic Idealize.SL.Sem

/-- The idealized kernel: it terminates, keeps its arguments, and leaves every semaphore at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1.2.1, (h.1 c).1.2.2⟩, h.2⟩) (run_main (F := Ideal) m ρ)

set_option maxRecDepth 65536 in
/-- The kernel at its own float values: the same program, so the same run. -/
theorem frame_kernel : Cert.quiescent_Kernel (hKernel := Cert.Kernel.Gen.facts) := fun m ρ _ =>
  (θ_run Cert.KernelIdeal.defs _ _).mono (fun _ h => ⟨fun c => ⟨(h.1 c).1.2.1, (h.1 c).1.2.2⟩, h.2⟩) (run_main (F := Bits) m ρ)

/-- The reference. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.RingProof
-- ==== Proof.Values.lean ====
module

public import proofs.«01_k».proof.Proof.Run
public import proofs.«01_k».proof.Proof.Gen.ReferenceIdeal
public import Idealize.ShloMosaic.Lib.Layout
public import Idealize.ShloMosaic.Lib.Pointwise
public import Idealize.ShloMosaic.PureOps.Ideal.Laws

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos bigSepL_perm)

variable {F : FTy → Type} [FloatOps F]

local notation "𝕄" => MT nD τ sig ℕ (Elt F) ℕ UU ℕ

open Idealize.ShloMosaic.Pointwise

/-- Over the reals a cast is the identity. -/
theorem castP_ideal (X : C32 Ideal) (y : S512x2048.Idx) : castP X y = X y := rfl
theorem extP_ideal (X : C16 Ideal) (y : S512x2048.Idx) : extP X y = X y := rfl
theorem addP_ideal (Y : C16 Ideal) (X : C32 Ideal) (y : S512x2048.Idx) : addP Y X y = (Y y : EReal) + (X y : EReal) := rfl

set_option maxRecDepth 16384 in
/-- One entry of a chunk's product. -/
theorem dotP_at (P Q O : C16 Ideal) (W : S2048x2048.Idx → Elt Ideal .bf16) (y : S512x2048.Idx) :
    dotP P Q O W y = ∑ k : Fin 2048, ((P (ix2 (y 0) k) : EReal) + (Q (ix2 (y 0) k) : EReal) + (O (ix2 (y 0) k) : EReal)) * (W (ix2 k (y 1)) : EReal) := by
  unfold dotP
  pointwise [k0_pay26, usq]

theorem rot_add4 (c : Dev nD) (k : ℕ) : rot c (k + 4) = rot c k := by
  apply Fin.ext
  show (c.val + (k + 4)) % 4 = (c.val + k) % 4
  omega

/-- Round the ring from a device one meets every device once. -/
def ringE (d : Dev nD) : Fin 4 ≃ Dev nD :=
  Equiv.ofBijective (fun k => rot d k.val) (by revert d; decide)

/-- A sum over the devices, from any of them round the ring. -/
theorem sum_ring (f : Dev nD → EReal) (d : Dev nD) : ∑ e : Dev nD, f e = f d + f (rot d 1) + f (rot d 2) + f (rot d 3) := by
  rw [← Equiv.sum_comp (ringE d) f, Fin.sum_univ_four]
  show f (rot d 0) + _ + _ + _ = _
  rw [rot_zero]
  rfl

variable (m : (ℓ : Loc nD τ sig) → Buf (Elt Ideal) ℓ)

/-- What arrives at a device from both sides and its own chunk add up to the four devices' chunks. -/
theorem three (d : Dev nD) (j : Fin 4) (z : S512x2048.Idx) :
    (rsV m d 0 j z : EReal) + (rsV m d 1 j z : EReal) + (castP (tch m d d j) z : EReal) = ∑ e : Dev nD, (tch m e d j z : EReal) := by
  rw [sum_ring _ d, castP_ideal]
  have e0 : rsV m d 0 j = upV m (rot d 3) j := rfl
  have e1 : rsV m d 1 j = dnV m (rot d 1) j := rfl
  have h2 : rot d 6 = rot d 2 := rot_add4 d 2
  have h0 : rot d 8 = d := (rot_add4 d 4).trans (rot_four d)
  rw [e0, e1]
  unfold upV dnV dgV
  simp only [rot_rot, Nat.reduceAdd, rot_four, h2, h0]
  by_cases hj : j.val < 2
  · simp only [hj, if_true, addP_ideal, castP_ideal]
    ac_rfl
  · simp only [hj, if_false, addP_ideal, castP_ideal]
    ac_rfl

/-- The reference's result, of the whole operand and the weights. -/
def refT (X : Cert.ReferenceIdeal.S32768x2048.Idx → Elt Ideal .f32) (W : Cert.ReferenceIdeal.S2048x2048.Idx → Elt Ideal .f32) :
    Cert.ReferenceIdeal.S8192x2048.Idx → Elt Ideal .f32 :=
  Host.dotGeneral (F := Ideal) (φ₁ := .f32) (φ₂ := .f32) Cert.ReferenceIdeal.dot_S8192x2048_S2048x2048_S8192x2048_1_0_0_1_n_n none
    (Host.reduceAdd (F := Ideal) (φ := .f32) (shapeCast _ X Cert.ReferenceIdeal.Facts₀.shapeCasts_S32768x2048_S4x8192x2048)
      (constant Cert.ReferenceIdeal.S_ .f32 0x00000000#32) Cert.ReferenceIdeal.Facts₀.reducesTo_S4x8192x2048_S8192x2048_d0 Cert.ReferenceIdeal.Facts₀.h_S_) W

set_option backward.proofsInPublic true in
theorem row_lt (e : Fin 4) (i : Cert.ReferenceIdeal.S8192x2048.Idx) : e.val * 8192 + (i 0).val < 32768 := by
  have h : (i 0).val < 8192 := (i 0).isLt
  omega

set_option maxRecDepth 16384 in
/-- One entry of the reference's result. -/
theorem refT_at (X : Cert.ReferenceIdeal.S32768x2048.Idx → Elt Ideal .f32) (W : Cert.ReferenceIdeal.S2048x2048.Idx → Elt Ideal .f32)
    (i : Cert.ReferenceIdeal.S8192x2048.Idx) :
    (refT X W i : EReal) = ∑ k : Fin 2048, (∑ e : Fin 4, (X (ix2 ⟨e.val * 8192 + (i 0).val, row_lt e i⟩ k) : EReal)) * (W (ix2 k (i 1)) : EReal) := by
  unfold refT
  pointwise []

/-- A chunk keeps its columns. -/
theorem emb_col (b j : Fin 4) (y : S512x2048.Idx) : (((r8 b j).emb y) 1).val = (y 1).val := by
  rw [Rect.emb_apply]
  show 0 + 1 * (y 1).val = _
  omega

/-- Chunk `j` of block `b` of every device's result is that chunk of the reference's result. -/
theorem out_ref (X : Cert.ReferenceIdeal.S32768x2048.Idx → Elt Ideal .f32) (W : Cert.ReferenceIdeal.S2048x2048.Idx → Elt Ideal .f32)
    (hX : ∀ c : Dev nD, m ((c : Thread nD τ).loc main_arg0) = Layout.block ⟨2, ![8192, 2048]⟩ ⟨2, ![32768, 2048]⟩ 0 4 c X)
    (hW : ∀ c : Dev nD, m ((c : Thread nD τ).loc main_arg1) = W)
    (c b : Dev nD) (j : Fin 4) (y : S512x2048.Idx) : (outV m c b j y : EReal) = refT X W ((r8 b j).emb y) := by
  have h1 : (outV m c b j y : EReal) = dotV m b j y := by
    unfold outV
    by_cases h : b = c
    · rw [if_pos h, h]
    · rw [if_neg h, extP_ideal]; exact castP_ideal _ _
  have ht : ∀ (e : Dev nD) (k : Fin 2048), (tch m e b j (ix2 (y 0) k) : EReal)
      = X (ix2 ⟨e.val * 8192 + (((r8 b j).emb y) 0).val, row_lt e _⟩ k) := by
    intro e k
    have hr : (tch m e b j (ix2 (y 0) k) : EReal) = m ((e : Thread nD τ).loc main_arg0) ((r8 b j).emb (ix2 (y 0) k)) := rfl
    rw [hr, hX e, Layout.block_apply]
    congr 1
    funext a
    apply Fin.ext
    revert a
    rw [Fin.forall_fin_two]
    refine ⟨?_, ?_⟩
    · rfl
    · exact emb_col b j (ix2 (y 0) k)
  have hw : ∀ k : Fin 2048, (w16V m b (ix2 k (y 1)) : EReal) = W (ix2 k (((r8 b j).emb y) 1)) := by
    intro k
    have hr : (w16V m b (ix2 k (y 1)) : EReal) = m ((b : Thread nD τ).loc main_arg1) (ix2 k (y 1)) := rfl
    rw [hr, hW b]
    congr 1
    congr 1
    apply Fin.ext
    exact (emb_col b j y).symm
  rw [h1, refT_at]
  unfold dotV
  rw [dotP_at]
  refine Finset.sum_congr rfl fun k _ => ?_
  rw [three, hw]
  congr 1
  exact Finset.sum_congr rfl fun e _ => ht e k

end Cert.RingProof
-- ==== Proof.Agree.lean ====
module

public import proofs.«01_k».proof.Defs
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

noncomputable section

namespace Cert.RingProof

open Idealize.ShloMosaic Idealize.SL.Sem

/-- Over the reals every device ends with the reference's product: the sum of the four blocks times the weights. -/
theorem same_value : Cert.algebraic_KernelIdeal_ReferenceIdeal (hKernelIdeal := Cert.KernelIdeal.Gen.facts)
    (hReferenceIdeal := Cert.ReferenceIdeal.Gen.facts) := fun m g m' g' _ h =>
  ⟨refT (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨eq8 (F := Ideal) (e := .f32) fun b j y =>
        ((hr.1 c).1.1 b j y).trans (out_ref m _ _ (fun d => (h d).1) (fun d => (h d).2) c b j y),
      (hr.1 c).1.2.1, (hr.1 c).1.2.2⟩) (run_main (F := Ideal) m g),
    (θ_run Cert.ReferenceIdeal.defs _ _).mono (fun _ hr => ⟨(hr 0).1, (hr 0).2.1, (hr 0).2.2⟩)
      (Cert.ReferenceIdeal.Value.run (F := Ideal) m' g')⟩

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The three frames, the kernel's idealisation, which rewrites nothing, and the agreement with the reference over the reals. -/
theorem claim : Cert.Claim := ⟨Cert.Kernel.Gen.facts, Cert.KernelIdeal.Gen.facts, Cert.ReferenceIdeal.Gen.facts,
  Cert.RingProof.frame_kernel, Cert.RingProof.frame_ideal, Cert.RingProof.frame_ref, trivial, Cert.RingProof.same_value⟩

end Cert.Proof

end
